-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_nan [hPre_no_nan : Cert.Pre_no_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_no_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_nan [hPre_no_nan : Cert.Pre_no_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_no_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_nan [hKernelIdeal : Cert.KernelIdeal.Facts] [hPre_no_nan : Cert.Pre_no_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_nan m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_nan [hReferenceIdeal : Cert.ReferenceIdeal.Facts] [hPre_no_nan : Cert.Pre_no_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_nan [hKernelIdeal : Cert.KernelIdeal.Facts] [hReferenceIdeal : Cert.ReferenceIdeal.Facts] [hPre_no_nan : Cert.Pre_no_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_nan : Cert.Pre_no_nan.Facts),
    quiescent_Kernel (hKernel := hKernel)
    ∧ quiescent_KernelIdeal (hKernelIdeal := hKernelIdeal)
    ∧ quiescent_KernelIdeal_pre_no_nan (hKernelIdeal := hKernelIdeal) (hPre_no_nan := hPre_no_nan)
    ∧ quiescent_ReferenceIdeal (hReferenceIdeal := hReferenceIdeal)
    ∧ quiescent_ReferenceIdeal_pre_no_nan (hReferenceIdeal := hReferenceIdeal) (hPre_no_nan := hPre_no_nan)
    ∧ preserves_Kernel_KernelIdeal
    ∧ algebraic_KernelIdeal_ReferenceIdeal_pre_no_nan (hKernelIdeal := hKernelIdeal) (hReferenceIdeal := hReferenceIdeal) (hPre_no_nan := hPre_no_nan)
-- ==== Pre_no_nan.lean ====
abbrev S96x1x14336 : Shape := ⟨3, ![96, 1, 14336]⟩
abbrev S14336x4096 : Shape := ⟨2, ![14336, 4096]⟩
abbrev S_ : Shape := ⟨0, ![]⟩

class Facts : Prop where
  bitsLt_bf16_f32 : FTy.bits .bf16 < FTy.bits .f32
  bcast_S_S96x1x14336 : S_.BroadcastsInDim S96x1x14336 (![] : Fin 0 → Fin S96x1x14336.rank)
  bcast_S_S14336x4096 : S_.BroadcastsInDim S14336x4096 (![] : Fin 0 → Fin S14336x4096.rank)

variable [Facts]

def fn {F : FTy → Type} [FloatOps F] (main_arg0 : FVec F S96x1x14336 .bf16) (main_arg1 : FVec F S14336x4096 .bf16) : IVec S96x1x14336 1 × IVec S14336x4096 1 :=
  let main_v0 : FVec F S96x1x14336 .bf16 := Host.absf main_arg0
  let main_v1 : FVec F S96x1x14336 .f32 := (extf .f32 · bitsLt_bf16_f32) main_v0
  let main_v2 : FVec F S14336x4096 .bf16 := Host.absf main_arg1
  let main_v3 : FVec F S14336x4096 .f32 := (extf .f32 · bitsLt_bf16_f32) main_v2
  let main_cst : FVec F S_ .f32 := constant S_ .f32 0x7F7F0000#32
  let main_v4 : FVec F S96x1x14336 .f32 := broadcastInDim S96x1x14336 ![] bcast_S_S96x1x14336 main_cst
  let main_v5 : IVec S96x1x14336 1 := cmpf .ole main_v1 main_v4
  let main_cst_0 : FVec F S_ .f32 := constant S_ .f32 0x7F800000#32
  let main_v6 : FVec F S96x1x14336 .f32 := broadcastInDim S96x1x14336 ![] bcast_S_S96x1x14336 main_cst_0
  let main_v7 : IVec S96x1x14336 1 := cmpf .oeq main_v1 main_v6
  let main_v8 : IVec S96x1x14336 1 := ori main_v5 main_v7
  let main_cst_1 : FVec F S_ .f32 := constant S_ .f32 0x7F7F0000#32
  let main_v9 : FVec F S14336x4096 .f32 := broadcastInDim S14336x4096 ![] bcast_S_S14336x4096 main_cst_1
  let main_v10 : IVec S14336x4096 1 := cmpf .ole main_v3 main_v9
  let main_cst_2 : FVec F S_ .f32 := constant S_ .f32 0x7F800000#32
  let main_v11 : FVec F S14336x4096 .f32 := broadcastInDim S14336x4096 ![] bcast_S_S14336x4096 main_cst_2
  let main_v12 : IVec S14336x4096 1 := cmpf .oeq main_v3 main_v11
  let main_v13 : IVec S14336x4096 1 := ori main_v10 main_v12
  (main_v8, main_v13)
-- ==== Kernel.lean ====
abbrev S96x1x14336 : Shape := ⟨3, ![96, 1, 14336]⟩
abbrev S14336x4096 : Shape := ⟨2, ![14336, 4096]⟩
abbrev S96x14336 : Shape := ⟨2, ![96, 14336]⟩
abbrev S96x4096 : Shape := ⟨2, ![96, 4096]⟩
abbrev S96x112 : Shape := ⟨2, ![96, 112]⟩
abbrev S28x4x32 : Shape := ⟨3, ![28, 4, 32]⟩
abbrev S96x512 : Shape := ⟨2, ![96, 512]⟩
abbrev S512x4096 : Shape := ⟨2, ![512, 4096]⟩
abbrev S1x4x32 : Shape := ⟨3, ![1, 4, 32]⟩
abbrev S96x128 : Shape := ⟨2, ![96, 128]⟩
abbrev S96 : Shape := ⟨1, ![96]⟩
abbrev S96x1 : Shape := ⟨2, ![96, 1]⟩
abbrev S1x255 : Shape := ⟨2, ![1, 255]⟩
abbrev S96x255 : Shape := ⟨2, ![96, 255]⟩
abbrev S4x32 : Shape := ⟨2, ![4, 32]⟩
abbrev S128x128 : Shape := ⟨2, ![128, 128]⟩
abbrev S8x16x128 : Shape := ⟨3, ![8, 16, 128]⟩
abbrev S16x128 : Shape := ⟨2, ![16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S512x128 : Shape := ⟨2, ![512, 128]⟩
abbrev S512x256 : Shape := ⟨2, ![512, 256]⟩
abbrev S96x256 : Shape := ⟨2, ![96, 256]⟩

abbrev nBuf : Space → Nat
  | .hbm => 8
  | .vmem => 14
  | .smem => 0
  | _ => 0

abbrev bufTy : (tb : Table) → Fin (tcTables nBuf tb) → BufTy
  | .hbm, ⟨0, _⟩ => ⟨S96x1x14336, .bf16⟩
  | .hbm, ⟨1, _⟩ => ⟨S14336x4096, .bf16⟩
  | .hbm, ⟨2, _⟩ => ⟨S96x14336, .bf16⟩
  | .hbm, ⟨3, _⟩ => ⟨S96x4096, .bf16⟩
  | .hbm, ⟨4, _⟩ => ⟨S96x14336, .fp8e4m3⟩
  | .hbm, ⟨5, _⟩ => ⟨S96x112, .f32⟩
  | .hbm, ⟨6, _⟩ => ⟨S14336x4096, .fp8e4m3⟩
  | .hbm, ⟨7, _⟩ => ⟨S28x4x32, .f32⟩
  | .local _ .vmem, ⟨0, _⟩ => ⟨S96x512, .bf16⟩
  | .local _ .vmem, ⟨1, _⟩ => ⟨S96x512, .bf16⟩
  | .local _ .vmem, ⟨2, _⟩ => ⟨S512x4096, .bf16⟩
  | .local _ .vmem, ⟨3, _⟩ => ⟨S512x4096, .bf16⟩
  | .local _ .vmem, ⟨4, _⟩ => ⟨S96x4096, .bf16⟩
  | .local _ .vmem, ⟨5, _⟩ => ⟨S96x512, .fp8e4m3⟩
  | .local _ .vmem, ⟨6, _⟩ => ⟨S96x512, .fp8e4m3⟩
  | .local _ .vmem, ⟨7, _⟩ => ⟨S96x112, .f32⟩
  | .local _ .vmem, ⟨8, _⟩ => ⟨S512x4096, .fp8e4m3⟩
  | .local _ .vmem, ⟨9, _⟩ => ⟨S512x4096, .fp8e4m3⟩
  | .local _ .vmem, ⟨10, _⟩ => ⟨S1x4x32, .f32⟩
  | .local _ .vmem, ⟨11, _⟩ => ⟨S1x4x32, .f32⟩
  | .local _ .vmem, ⟨12, _⟩ => ⟨S96x4096, .f32⟩
  | .local _ .vmem, ⟨13, _⟩ => ⟨S96x512, .bf16⟩
  | _, _ => ⟨S96x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32_2962 : BitVec 32 := 27#32
  let v8757 : BitVec 1 := Scalar.cmpi .eq arg0 c27_i32_2962
  let v8758 : BitVec 32 := Scalar.extui v8757
  let c0_i32_2963 : BitVec 32 := 0#32
  let v8759 : BitVec 1 := Scalar.cmpi .ne v8758 c0_i32_2963
  v8759

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S96x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S96x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S96x1x14336 : Shape := ⟨3, ![96, 1, 14336]⟩
abbrev S14336x4096 : Shape := ⟨2, ![14336, 4096]⟩
abbrev S96x14336 : Shape := ⟨2, ![96, 14336]⟩
abbrev S96x4096 : Shape := ⟨2, ![96, 4096]⟩
abbrev S96x112 : Shape := ⟨2, ![96, 112]⟩
abbrev S28x4x32 : Shape := ⟨3, ![28, 4, 32]⟩
abbrev S96x112x128 : Shape := ⟨3, ![96, 112, 128]⟩
abbrev S1x1x253 : Shape := ⟨3, ![1, 1, 253]⟩
abbrev S96x112x1 : Shape := ⟨3, ![96, 112, 1]⟩
abbrev S96x112x253 : Shape := ⟨3, ![96, 112, 253]⟩
abbrev S112x128x32x128 : Shape := ⟨4, ![112, 128, 32, 128]⟩
abbrev S112x32 : Shape := ⟨2, ![112, 32]⟩
abbrev S112x32x1 : Shape := ⟨3, ![112, 32, 1]⟩
abbrev S112x32x253 : Shape := ⟨3, ![112, 32, 253]⟩
abbrev S112x1x32x1 : Shape := ⟨4, ![112, 1, 32, 1]⟩

abbrev nBuf : Space → Nat
  | .hbm => 8
  | .vmem => 7
  | .smem => 0
  | _ => 0

abbrev bufTy : (tb : Table) → Fin (tcTables nBuf tb) → BufTy
  | .hbm, ⟨0, _⟩ => ⟨S96x1x14336, .bf16⟩
  | .hbm, ⟨1, _⟩ => ⟨S14336x4096, .bf16⟩
  | .hbm, ⟨2, _⟩ => ⟨S96x14336, .bf16⟩
  | .hbm, ⟨3, _⟩ => ⟨S96x4096, .bf16⟩
  | .hbm, ⟨4, _⟩ => ⟨S96x14336, .fp8e4m3⟩
  | .hbm, ⟨5, _⟩ => ⟨S96x112, .f32⟩
  | .hbm, ⟨6, _⟩ => ⟨S14336x4096, .fp8e4m3⟩
  | .hbm, ⟨7, _⟩ => ⟨S28x4x32, .f32⟩
  | .local _ .vmem, ⟨0, _⟩ => ⟨S96x14336, .bf16⟩
  | .local _ .vmem, ⟨1, _⟩ => ⟨S14336x4096, .bf16⟩
  | .local _ .vmem, ⟨2, _⟩ => ⟨S96x4096, .bf16⟩
  | .local _ .vmem, ⟨3, _⟩ => ⟨S96x14336, .fp8e4m3⟩
  | .local _ .vmem, ⟨4, _⟩ => ⟨S96x112, .f32⟩
  | .local _ .vmem, ⟨5, _⟩ => ⟨S14336x4096, .fp8e4m3⟩
  | .local _ .vmem, ⟨6, _⟩ => ⟨S28x4x32, .f32⟩
  | _, _ => ⟨S96x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S96x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pieces.lean ====
/- What the kernel's body stores at one grid point, written with the block's own functions: the codes, the scale and the
   dequantised values of one weight block and of one activation block, the lists of stores of the body built from them by
   recursion on the block number, and, for each of the three cases of the body's conditionals (first, middle, last grid
   point), that the stores the body makes are those lists. -/
module

public import proofs.«01_k».proof.Proof.Gen.KernelIdeal.Frame

@[expose] public section

set_option maxRecDepth 16384

noncomputable section

namespace Cert.Quant

open Idealize.ShloMosaic Cert.KernelIdeal Cert.KernelIdeal.Gen

variable {F : FTy → Type} [FloatOps F]

/-! ## One block -/

/-- The codes of a weight block. -/
def wCode (v : Vec F S128x128 .bf16) : Vec F S128x128 .fp8e4m3 := k0_pay42 v (k0_pay37 v) (k0_pay38 v) k0_pay39
/-- The scale of a weight block. -/
def wScale (v : Vec F S128x128 .bf16) : Vec F S1x1 .f32 := k0_pay41 (k0_pay37 v) (k0_pay38 v) k0_pay39
/-- The dequantised weight block: codes times scale. -/
def wDeq (v : Vec F S128x128 .bf16) : Vec F S128x128 .bf16 := k0_pay43 v (k0_pay37 v) (k0_pay38 v) k0_pay39
/-- The codes of an activation block. -/
def xCode (v : Vec F S96x128 .bf16) : Vec F S96x128 .fp8e4m3 := k0_pay10 (k0_pay6 v) (k0_pay7 v)
/-- The scale of an activation block, spread over its lanes. -/
def xScale (v : Vec F S96x128 .bf16) : Vec F S96x128 .f32 := k0_pay9 (k0_pay8 v)
/-- The dequantised activation block: codes times scale. -/
def xDeq (v : Vec F S96x128 .bf16) : Vec F S96x128 .bf16 := k0_pay11 (k0_pay6 v) (k0_pay7 v) (k0_pay8 v)

/-! ## The rectangles -/

theorem wRect_inb (p : ℕ) : ∀ a, (![p % 4 * 128, p / 4 % 32 * 128] : Fin 2 → ℕ) a + S128x128.size a ≤ S512x4096.size a := by
  intro a; fin_cases a
  · show p % 4 * 128 + 128 ≤ 512; omega
  · show p / 4 % 32 * 128 + 128 ≤ 4096; omega
theorem xRect_inb (j : ℕ) : ∀ a, (![0, j % 4 * 128] : Fin 2 → ℕ) a + S96x128.size a ≤ S96x512.size a := by
  intro a; fin_cases a
  · show 0 + 96 ≤ 96; omega
  · show j % 4 * 128 + 128 ≤ 512; omega
theorem aRect_inb (t : ℕ) : ∀ a, (![0, t % 16 * 256] : Fin 2 → ℕ) a + S96x256.size a ≤ S96x4096.size a := by
  intro a; fin_cases a
  · show 0 + 96 ≤ 96; omega
  · show t % 16 * 256 + 256 ≤ 4096; omega
/-- Weight block `p` of a chunk: row block `p % 4` and column block `p / 4`. -/
abbrev wRect (p : ℕ) : Rect S512x4096 := Rect.unit ![p % 4 * 128, p / 4 % 32 * 128] S128x128.size (wRect_inb p)
/-- Activation block `j` of a chunk. -/
abbrev xRect (j : ℕ) : Rect S96x512 := Rect.unit ![0, j % 4 * 128] S96x128.size (xRect_inb j)
/-- Tile `t` of the accumulator. -/
abbrev aRect (t : ℕ) : Rect S96x4096 := Rect.unit ![0, t % 16 * 256] S96x256.size (aRect_inb t)
/-- The whole block of the weight scales, of the activation scales, of the accumulator and of the output. -/
abbrev wsRect : Rect S1x4x32 := Rect.unit ![0, 0, 0] S1x4x32.size inb_S1x4x32_S1x4x32_0_0_0
abbrev xsRect : Rect S96x112 := Rect.unit ![0, 0] S96x112.size inb_S96x112_S96x112_0_0
abbrev xdRect : Rect S96x512 := Rect.unit ![0, 0] S96x512.size inb_S96x512_S96x512_0_0
abbrev yRect : Rect S96x4096 := Rect.unit ![0, 0] S96x4096.size inb_S96x4096_S96x4096_0_0

/-! ## The stores -/

/-- The first `n` stores of a family, last first: store `m` writes `f m` through rectangle `R m`. -/
def stores {S : Shape} {e : EltTy} (R : ℕ → Rect S) (f : (m : ℕ) → (R m).shape.Idx → Elt F e) : ℕ → List (View.Piece (Elt F) S e)
  | 0 => []
  | n + 1 => ⟨R n, f n⟩ :: stores R f n

/-- The stores of the codes of the first `n` weight blocks, last first. -/
def wcP (L : ℕ → Vec F S128x128 .bf16) : ℕ → List (View.Piece (Elt F) S512x4096 .fp8e4m3) := stores wRect fun m => wCode (L m)

/-- The weight scales after the first `n` blocks. -/
def wsN (L : ℕ → Vec F S128x128 .bf16) : ℕ → Vec F S4x32 .f32
  | 0 => k0_pay36
  | n + 1 => select (andi (cmpi .eq (iota .tc S4x32 32 [1] iota_S4x32_d1_w32) (broadcast S4x32 (BitVec.ofNat 32 (n / 4))))
      (cmpi .eq (iota .tc S4x32 32 [0] iota_S4x32_d0_w32) (broadcast S4x32 (BitVec.ofNat 32 (n % 4)))))
      (broadcastTo S4x32 (shapeCast S1x1 (wScale (L n)) shapeCasts_S1x1_S1x1) broadcasts_S1x1_S4x32) (wsN L n)

/-- The stores of the codes of the first `n` activation blocks, last first. -/
def xcP (L : ℕ → Vec F S96x128 .bf16) : ℕ → List (View.Piece (Elt F) S96x512 .fp8e4m3) := stores xRect fun m => xCode (L m)

/-- The stores of the first `n` dequantised activation blocks, last first. -/
def xdP (L : ℕ → Vec F S96x128 .bf16) : ℕ → List (View.Piece (Elt F) S96x512 .bf16) := stores xRect fun m => xDeq (L m)

/-- The activation scales after the first `n` blocks of chunk `k`, over what they held before. -/
def xsN (k : BitVec 32) (L : ℕ → Vec F S96x128 .bf16) (v : Vec F S96x112 .f32) : ℕ → Vec F S96x112 .f32
  | 0 => v
  | n + 1 => select (cmpi .eq (iota .tc S96x112 32 [1] iota_S96x112_d1_w32)
      (broadcast S96x112 (Scalar.addi (Scalar.muli k 4#32) (BitVec.ofNat 32 n))))
      (extractStridedSlice S96x112 ![0, 0] (xScale (L n)) slices_S96x128_o0_0_S96x112) (xsN k L v n)

/-- A column of four dequantised weight blocks. -/
def wCol (L : ℕ → Vec F S128x128 .bf16) (p : ℕ) : Vec F S512x128 .bf16 :=
  concatenate S512x128 0 [⟨S128x128, wDeq (L (4 * p))⟩, ⟨S128x128, wDeq (L (4 * p + 1))⟩, ⟨S128x128, wDeq (L (4 * p + 2))⟩,
    ⟨S128x128, wDeq (L (4 * p + 3))⟩] concatenates_S128x128_S128x128_S128x128_S128x128_S512x128_d0

/-- Tile `t` of the accumulator after the chunk: what it held plus the activations times two columns of weight blocks. -/
def aTile (L : ℕ → Vec F S128x128 .bf16) (t : ℕ) (a : Vec F S96x256 .f32) (xd : Vec F S96x512 .bf16) : Vec F S96x256 .f32 :=
  shapeCast S96x256 (addf a (matmul dot_S96x512_S512x256_S96x256_1_0_0_1_n_n none xd
    (concatenate S512x256 1 [⟨S512x128, wCol L (2 * t)⟩, ⟨S512x128, wCol L (2 * t + 1)⟩] concatenates_S512x128_S512x128_S512x256_d1)
    (constant S96x256 .f32 0x00000000#32))) shapeCasts_S96x256_S96x256

/-- The stores of the first `n` tiles of the accumulator, last first, each tile read from the accumulator's block `A`. -/
def accP (L : ℕ → Vec F S128x128 .bf16) (A : ℕ → Vec F S96x256 .f32) (xd : Vec F S96x512 .bf16) :
    ℕ → List (View.Piece (Elt F) S96x4096 .f32) := stores aRect fun m => aTile L m (A m) xd

/-- The same at the first grid point, where the accumulator has just been stored whole with zeros and each tile is read
    back from the stores made so far. -/
def accP0 (v : Memref sig .tc .vmem S96x4096 .f32) (L : ℕ → Vec F S128x128 .bf16) (xd : Vec F S96x512 .bf16) :
    ℕ → List (View.Piece (Elt F) S96x4096 .f32)
  | 0 => [⟨yRect, k0_pay3⟩]
  | n + 1 => ⟨aRect n, aTile L n (v.view.readCov (accP0 v L xd n) (aRect n).toLoadRect) xd⟩ :: accP0 v L xd n

/-! ## The cases -/

section
variable (c : Dev nD) (i : grid0.Coords) (arg1 : Memref sig .tc .vmem S96x512 .bf16) (harg1 : arg1.IsWhole)
  (arg2 : Memref sig .tc .vmem S512x4096 .bf16) (harg2 : arg2.IsWhole) (arg3 : Memref sig .tc .vmem S96x4096 .bf16)
  (harg3 : arg3.IsWhole) (arg4 : Memref sig .tc .vmem S96x512 .fp8e4m3) (harg4 : arg4.IsWhole)
  (arg5 : Memref sig .tc .vmem S96x112 .f32) (harg5 : arg5.IsWhole) (arg6 : Memref sig .tc .vmem S512x4096 .fp8e4m3)
  (harg6 : arg6.IsWhole) (arg7 : Memref sig .tc .vmem S1x4x32 .f32) (harg7 : arg7.IsWhole)
  (arg8 : Memref sig .tc .vmem S96x4096 .f32) (harg8 : arg8.IsWhole) (arg9 : Memref sig .tc .vmem S96x512 .bf16)
  (harg9 : arg9.IsWhole)
  (x0 : Vec F S96x512 .bf16) (x1 : Vec F S512x4096 .bf16) (xo4 : Vec F S96x112 .f32) (xs0 : Vec F S96x4096 .f32)

/-- Weight block `p` as the body loads it. -/
def ldW (p : ℕ) : Vec F S128x128 .bf16 := View.readAt (Elt F) arg2.view (wRect p).toLoadRect (harg2.unread x1)
/-- Activation block `j` as the body loads it. -/
def ldX (j : ℕ) : Vec F S96x128 .bf16 := View.readAt (Elt F) arg1.view (xRect j).toLoadRect (harg1.unread x0)
/-- Accumulator tile `t` as the body loads it after the first grid point. -/
def ldA (t : ℕ) : Vec F S96x256 .f32 := View.readAt (Elt F) arg8.view (aRect t).toLoadRect (harg8.unread xs0)
/-- The dequantised activations as the body loads them back. -/
def ldXd : Vec F S96x512 .bf16 := arg9.view.readCov (xdP (ldX arg1 harg1 x0) 4) xdRect.toLoadRect

/-- The stores of the activation codes at the first point. -/
theorem piecesA_3 (hc0 : cond0_0 i) (hc1 : ¬cond0_1 i) :
    (kernelRun0_A c i arg1 harg1 arg2 harg2 arg3 harg3 arg4 harg4 arg5 harg5 arg6 harg6 arg7 harg7 arg8 harg8 arg9 harg9
      hc0 hc1 x0 x1).2.1
      = xcP (ldX arg1 harg1 x0) 4 := by sl_kernel_rfl

/-- The stores of the activation scales at the first point. -/
theorem piecesA_4 (hc0 : cond0_0 i) (hc1 : ¬cond0_1 i) :
    (kernelRun0_A c i arg1 harg1 arg2 harg2 arg3 harg3 arg4 harg4 arg5 harg5 arg6 harg6 arg7 harg7 arg8 harg8 arg9 harg9
      hc0 hc1 x0 x1).2.2.1
      = ⟨xsRect, xsN (BitVec.ofNat 32 (i 0).val) (ldX arg1 harg1 x0) (k0_pay5 (arg5.view.readCov [⟨xsRect, k0_pay4⟩] xsRect.toLoadRect)) 4⟩ :: [⟨xsRect, k0_pay4⟩] := by sl_kernel_rfl

/-- The stores of the weight codes at the first point. -/
theorem piecesA_5 (hc0 : cond0_0 i) (hc1 : ¬cond0_1 i) :
    (kernelRun0_A c i arg1 harg1 arg2 harg2 arg3 harg3 arg4 harg4 arg5 harg5 arg6 harg6 arg7 harg7 arg8 harg8 arg9 harg9
      hc0 hc1 x0 x1).2.2.2.1
      = wcP (ldW arg2 harg2 x1) 128 := by sl_kernel_rfl

/-- The stores of the weight scales at the first point. -/
theorem piecesA_6 (hc0 : cond0_0 i) (hc1 : ¬cond0_1 i) :
    (kernelRun0_A c i arg1 harg1 arg2 harg2 arg3 harg3 arg4 harg4 arg5 harg5 arg6 harg6 arg7 harg7 arg8 harg8 arg9 harg9
      hc0 hc1 x0 x1).2.2.2.2.1
      = [⟨wsRect, k0_pay1 (wsN (ldW arg2 harg2 x1) 128)⟩] := by sl_kernel_rfl

/-- The stores of the accumulator at the first point. -/
theorem piecesA_acc (hc0 : cond0_0 i) (hc1 : ¬cond0_1 i) :
    (kernelRun0_A c i arg1 harg1 arg2 harg2 arg3 harg3 arg4 harg4 arg5 harg5 arg6 harg6 arg7 harg7 arg8 harg8 arg9 harg9
      hc0 hc1 x0 x1).2.2.2.2.2.1
      = accP0 arg8 (ldW arg2 harg2 x1) (ldXd arg1 harg1 arg9 x0) 16 := by sl_kernel_rfl

/-- The stores of the activation codes at the middle point. -/
theorem piecesB_3 (hc0 : ¬cond0_0 i) (hc1 : ¬cond0_1 i) :
    (kernelRun0_B c i arg1 harg1 arg2 harg2 arg3 harg3 arg4 harg4 arg5 harg5 arg6 harg6 arg7 harg7 arg8 harg8 arg9 harg9
      hc0 hc1 x0 x1 xo4 xs0).2.1
      = xcP (ldX arg1 harg1 x0) 4 := by sl_kernel_rfl

/-- The stores of the activation scales at the middle point. -/
theorem piecesB_4 (hc0 : ¬cond0_0 i) (hc1 : ¬cond0_1 i) :
    (kernelRun0_B c i arg1 harg1 arg2 harg2 arg3 harg3 arg4 harg4 arg5 harg5 arg6 harg6 arg7 harg7 arg8 harg8 arg9 harg9
      hc0 hc1 x0 x1 xo4 xs0).2.2.1
      = ⟨xsRect, xsN (BitVec.ofNat 32 (i 0).val) (ldX arg1 harg1 x0) (k0_pay5 (View.readAt (Elt F) arg5.view xsRect.toLoadRect (harg5.unread xo4))) 4⟩ :: [] := by sl_kernel_rfl

/-- The stores of the weight codes at the middle point. -/
theorem piecesB_5 (hc0 : ¬cond0_0 i) (hc1 : ¬cond0_1 i) :
    (kernelRun0_B c i arg1 harg1 arg2 harg2 arg3 harg3 arg4 harg4 arg5 harg5 arg6 harg6 arg7 harg7 arg8 harg8 arg9 harg9
      hc0 hc1 x0 x1 xo4 xs0).2.2.2.1
      = wcP (ldW arg2 harg2 x1) 128 := by sl_kernel_rfl

/-- The stores of the weight scales at the middle point. -/
theorem piecesB_6 (hc0 : ¬cond0_0 i) (hc1 : ¬cond0_1 i) :
    (kernelRun0_B c i arg1 harg1 arg2 harg2 arg3 harg3 arg4 harg4 arg5 harg5 arg6 harg6 arg7 harg7 arg8 harg8 arg9 harg9
      hc0 hc1 x0 x1 xo4 xs0).2.2.2.2.1
      = [⟨wsRect, k0_pay1 (wsN (ldW arg2 harg2 x1) 128)⟩] := by sl_kernel_rfl

/-- The stores of the accumulator at the middle point. -/
theorem piecesB_acc (hc0 : ¬cond0_0 i) (hc1 : ¬cond0_1 i) :
    (kernelRun0_B c i arg1 harg1 arg2 harg2 arg3 harg3 arg4 harg4 arg5 harg5 arg6 harg6 arg7 harg7 arg8 harg8 arg9 harg9
      hc0 hc1 x0 x1 xo4 xs0).2.2.2.2.2.1
      = accP (ldW arg2 harg2 x1) (ldA arg8 harg8 xs0) (ldXd arg1 harg1 arg9 x0) 16 := by sl_kernel_rfl

/-- The stores of the output at the last point. -/
theorem piecesC_2 (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).1
      = [⟨yRect, k0_pay2 (arg8.view.readCov (accP (ldW arg2 harg2 x1) (ldA arg8 harg8 xs0) (ldXd arg1 harg1 arg9 x0) 16) yRect.toLoadRect)⟩] := by sl_kernel_rfl

/-- The stores of the activation codes at the last point. -/
theorem piecesC_3 (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).2.1
      = xcP (ldX arg1 harg1 x0) 4 := by sl_kernel_rfl

/-- The stores of the activation scales at the last point. -/
theorem piecesC_4 (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).2.2.1
      = ⟨xsRect, xsN (BitVec.ofNat 32 (i 0).val) (ldX arg1 harg1 x0) (k0_pay5 (View.readAt (Elt F) arg5.view xsRect.toLoadRect (harg5.unread xo4))) 4⟩ :: [] := by sl_kernel_rfl

/-- The stores of the weight codes at the last point. -/
theorem piecesC_5 (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).2.2.2.1
      = wcP (ldW arg2 harg2 x1) 128 := by sl_kernel_rfl

/-- The stores of the weight scales at the last point. -/
theorem piecesC_6 (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).2.2.2.2.1
      = [⟨wsRect, k0_pay1 (wsN (ldW arg2 harg2 x1) 128)⟩] := by sl_kernel_rfl

/-- The stores of the accumulator at the last point. -/
theorem piecesC_acc (hc0 : ¬cond0_0 i) (hc1 : cond0_1 i) :
    (kernelRun0_C c i arg1 harg1 arg2 harg2 arg3 harg3 arg4 harg4 arg5 harg5 arg6 harg6 arg7 harg7 arg8 harg8 arg9 harg9
      hc0 hc1 x0 x1 xo4 xs0).2.2.2.2.2.1
      = accP (ldW arg2 harg2 x1) (ldA arg8 harg8 xs0) (ldXd arg1 harg1 arg9 x0) 16 := by sl_kernel_rfl

end

end Cert.Quant
-- ==== Proof.Scale.lean ====
/- The power-of-two scale of a block, at the extended reals: the least power of two above `v` (the block's greatest
   magnitude divided by 448), and 1 where `v` is below the least normal binary32 number or infinite. The kernel reads the
   exponent off a count of the powers of two that `v` reaches; the reference takes the least power of two above `v`. Both
   are `scl v`, and the factor by which the kernel multiplies a block is the reciprocal `1 / scl v`. -/
module

public import Idealize.ShloMosaic.Lib.Pointwise
public import Idealize.ShloMosaic.Lib.WordSum

@[expose] public section

noncomputable section

namespace Cert.Quant

open Idealize.ShloMosaic

/-- The binary32 number whose bits are `n` in the exponent field and zero elsewhere. -/
def pw (n : ℕ) : EReal := Ideal.ofBits .f32 (BitVec.ofNat 32 n <<< 23)

/-- For an exponent field from 1 to 254 that number is `2 ^ (n - 127)`. -/
theorem pw_eq : ∀ n : ℕ, 1 ≤ n → n ≤ 254 → pw n = (((2 : ℝ) ^ ((n : ℤ) - 127) : ℝ) : EReal) := by
  intro n h1 h2
  have hb : ∀ n : Fin 256, ((BitVec.ofNat 32 n.val <<< 23).extractLsb' 31 1 == 1#1) = false
      ∧ ((BitVec.ofNat 32 n.val <<< 23).extractLsb' 23 8).toNat = n.val
      ∧ ((BitVec.ofNat 32 n.val <<< 23).extractLsb' 0 23).toNat = 0 := by decide +kernel
  obtain ⟨a, b, c⟩ := hb ⟨n, by omega⟩
  show Ideal.ieee 8 23 (BitVec.ofNat 32 n <<< 23) = _
  unfold Ideal.ieee
  simp only [show 8 + 23 = 31 from rfl, a, b, c]
  rw [if_neg (by omega), if_neg (by omega)]
  refine congrArg (fun r : ℝ => (r : EReal)) ?_
  rw [show ((n : ℤ) - (2 ^ (8 - 1) - 1) - (23 : ℕ)) = ((n : ℤ) - 127) + (-23) by norm_num; ring, zpow_add₀ (by norm_num)]
  norm_num
  ring

/-- The all-ones exponent field is +∞. -/
theorem pw_top : pw 255 = ⊤ := by
  show Ideal.ieee 8 23 (BitVec.ofNat 32 255 <<< 23) = _
  have h : ((BitVec.ofNat 32 255 <<< 23).extractLsb' 31 1 == 1#1) = false
      ∧ ((BitVec.ofNat 32 255 <<< 23).extractLsb' 23 8).toNat = 255
      ∧ ((BitVec.ofNat 32 255 <<< 23).extractLsb' 0 23).toNat = 0 := by decide +kernel
  obtain ⟨a, b, c⟩ := h
  unfold Ideal.ieee
  simp only [show 8 + 23 = 31 from rfl, a, b, c]
  rw [if_pos (by norm_num)]; rfl

/-- The powers increase. -/
theorem pw_lt {a b : ℕ} (ha : 1 ≤ a) (hab : a < b) (hb : b ≤ 255) : pw a < pw b := by
  rw [pw_eq a ha (by omega)]
  rcases Nat.lt_or_ge b 255 with h | h
  · rw [pw_eq b (by omega) (by omega), EReal.coe_lt_coe_iff]
    exact zpow_lt_zpow_right₀ (by norm_num) (by omega)
  · rw [show b = 255 by omega, pw_top]; exact EReal.coe_lt_top _

theorem pw_le {a b : ℕ} (ha : 1 ≤ a) (hab : a ≤ b) (hb : b ≤ 255) : pw a ≤ pw b := by
  rcases Nat.eq_or_lt_of_le hab with h | h
  · rw [h]
  · exact (pw_lt ha h hb).le

theorem pw_one : pw 127 = 1 := by
  rw [pw_eq 127 (by norm_num) (by norm_num)]; norm_num

/-- The scale of a block whose greatest magnitude divided by 448 is `v`: the least power of two above `v`, from `2⁻¹²⁵` on;
    1 where `v` is below `2⁻¹²⁶` or infinite. -/
def scl (v : EReal) : EReal :=
  if v < pw 1 ∨ v = ⊤ then 1
  else (Finset.univ : Finset (Fin 253)).fold min ⊤ fun k => if v < pw (k.val + 2) then pw (k.val + 2) else ⊤

/-- Every `v` outside the two special ranges lies in one binade. -/
theorem binade {v : EReal} (h1 : pw 1 ≤ v) (h2 : v < ⊤) : ∃ n, 1 ≤ n ∧ n ≤ 254 ∧ pw n ≤ v ∧ v < pw (n + 1) := by
  have hex : ∃ n, v < pw (n + 1) := ⟨254, by rw [pw_top]; exact h2⟩
  refine ⟨Nat.find hex, ?_, Nat.find_le (h := hex) (by rw [pw_top]; exact h2), ?_, Nat.find_spec hex⟩
  · rcases Nat.eq_zero_or_pos (Nat.find hex) with h | h
    · have := Nat.find_spec hex; rw [h] at this; exact absurd this (not_lt.2 h1)
    · exact h
  · have hpos : 1 ≤ Nat.find hex := by
      rcases Nat.eq_zero_or_pos (Nat.find hex) with h | h
      · have := Nat.find_spec hex; rw [h] at this; exact absurd this (not_lt.2 h1)
      · exact h
    have := Nat.find_min hex (m := Nat.find hex - 1) (by omega)
    rw [show Nat.find hex - 1 + 1 = Nat.find hex by omega] at this
    exact not_lt.1 this

/-- In the binade from `2^(n-127)` the scale is its upper end. -/
theorem scl_of_binade {v : EReal} {n : ℕ} (h1 : 1 ≤ n) (h2 : n ≤ 253) (hl : pw n ≤ v) (hu : v < pw (n + 1)) :
    scl v = pw (n + 1) := by
  unfold scl
  rw [if_neg]
  · apply le_antisymm
    · rw [Finset.fold_min_le]
      refine Or.inr ⟨⟨n - 1, by omega⟩, Finset.mem_univ _, ?_⟩
      simp only [show n - 1 + 2 = n + 1 by omega]
      rw [if_pos hu]
    · rw [Finset.le_fold_min]
      refine ⟨le_top, fun k _ => ?_⟩
      split
      · next h =>
        refine pw_le (by omega) ?_ (by have := k.isLt; omega)
        by_contra hc
        exact absurd (h.trans_le ((pw_le (by omega) (by omega) (by omega)).trans hl)) (lt_irrefl _)
      · exact le_top
  · rintro (h | h)
    · exact absurd (h.trans_le ((pw_le (le_refl _) h1 (by omega)).trans hl)) (lt_irrefl _)
    · rw [h] at hu; exact absurd hu (not_lt.2 le_top)

/-- How many of the powers of two `2⁻¹²⁶, …, 2¹²⁷, +∞` a value reaches. -/
def cnt (v : EReal) : ℕ := ∑ k : Fin 255, if pw (k.val + 1) ≤ v then 1 else 0

theorem cnt_eq {v : EReal} {n : ℕ} (hn : n ≤ 255) (hl : ∀ k, 1 ≤ k → k ≤ n → pw k ≤ v)
    (hu : ∀ k, n < k → k ≤ 255 → ¬pw k ≤ v) : cnt v = n := by
  unfold cnt
  rw [Finset.sum_ite, Finset.sum_const_zero, add_zero, Finset.sum_const, smul_eq_mul, mul_one]
  have : (Finset.univ.filter fun k : Fin 255 => pw (k.val + 1) ≤ v) = Finset.univ.filter fun k : Fin 255 => k.val < n := by
    refine Finset.filter_congr fun k _ => ⟨fun h => ?_, fun h => hl _ (by omega) (by omega)⟩
    by_contra hc
    exact hu _ (by omega) (by have := k.isLt; omega) h
  rw [this, Fin.card_filter_val_lt]
  omega

/-- The kernel's count: the one-bit comparisons widened to words and added. -/
theorem fold_count (v : EReal) :
    Finset.univ.fold IntOp.addi (0#32)
      (fun x : Fin 255 => BitVec.setWidth 32 (BitVec.ofBool (decide
        (Ideal.ofBits .f32 (IntOp.shli ArithUnit.vector (IntOp.addi (1#32) (BitVec.ofNat 32 x.val)) 23#32) ≤ v))))
      = BitVec.ofNat 32 (cnt v) := by
  have hsh : ∀ x : Fin 255, IntOp.shli ArithUnit.vector (IntOp.addi (1#32) (BitVec.ofNat 32 x.val)) 23#32
      = BitVec.ofNat 32 (x.val + 1) <<< 23 := by decide +kernel
  have hc : cnt v ≤ 255 := by
    unfold cnt
    refine (Finset.sum_le_card_nsmul _ _ 1 fun k _ => by split <;> omega).trans ?_
    simp
  have : ∀ s : Finset (Fin 255), s.fold IntOp.addi (0#32)
      (fun x : Fin 255 => BitVec.setWidth 32 (BitVec.ofBool (decide
        (Ideal.ofBits .f32 (IntOp.shli ArithUnit.vector (IntOp.addi (1#32) (BitVec.ofNat 32 x.val)) 23#32) ≤ v))))
      = BitVec.ofNat 32 (∑ k ∈ s, if pw (k.val + 1) ≤ v then 1 else 0) := by
    intro s
    induction s using Finset.cons_induction with
    | empty => rfl
    | cons a s ha ih =>
      rw [Finset.fold_cons, ih, Finset.sum_cons, BitVec.ofNat_add, hsh]
      show _ + _ = _
      congr 1
      unfold pw
      split <;> rename_i h <;> simp [h]
  exact this _

/-- The unbiased exponent the kernel forms from its count: 0 in the two special ranges. -/
def kexp (v : EReal) : BitVec 32 :=
  Scalar.select (IntOp.ori (IntOp.cmpi .eq (BitVec.ofNat 32 (cnt v)) 0#32) (IntOp.cmpi .eq (BitVec.ofNat 32 (cnt v)) 255#32))
    (0#32) (IntOp.subi (BitVec.ofNat 32 (cnt v)) 126#32)

/-- The kernel's scale, from its exponent. -/
def kscl (v : EReal) : EReal :=
  Ideal.ofBits .f32 (IntOp.shli ArithUnit.vector (IntOp.addi (127#32) (kexp v)) 23#32)

/-- The kernel's factor, from its exponent. -/
def kinv (v : EReal) : EReal :=
  Ideal.ofBits .f32 (IntOp.shli ArithUnit.vector (IntOp.subi (127#32) (kexp v)) 23#32)

/-- The range of `v` in which the exponent of the factor stays in its field: below `2¹²⁶`, or +∞. -/
def InRange (v : EReal) : Prop := v < pw 253 ∨ v = ⊤

theorem words_special : ∀ c : BitVec 32, c = 0#32 ∨ c = 255#32 →
    Scalar.select (IntOp.ori (IntOp.cmpi .eq c 0#32) (IntOp.cmpi .eq c 255#32)) (0#32) (IntOp.subi c 126#32) = 0#32 := by
  rintro c (rfl | rfl) <;> decide +kernel

theorem words_normal : ∀ n : Fin 255, n.val ≠ 0 →
    IntOp.shli ArithUnit.vector (IntOp.addi (127#32) (Scalar.select (IntOp.ori (IntOp.cmpi .eq (BitVec.ofNat 32 n.val) 0#32)
      (IntOp.cmpi .eq (BitVec.ofNat 32 n.val) 255#32)) (0#32) (IntOp.subi (BitVec.ofNat 32 n.val) 126#32))) 23#32
      = BitVec.ofNat 32 (n.val + 1) <<< 23
    ∧ (n.val ≤ 252 → IntOp.shli ArithUnit.vector (IntOp.subi (127#32) (Scalar.select (IntOp.ori (IntOp.cmpi .eq (BitVec.ofNat 32 n.val) 0#32)
      (IntOp.cmpi .eq (BitVec.ofNat 32 n.val) 255#32)) (0#32) (IntOp.subi (BitVec.ofNat 32 n.val) 126#32))) 23#32
      = BitVec.ofNat 32 (253 - n.val) <<< 23) := by
  decide +kernel

/-- THE SCALE AND THE FACTOR: in range, the kernel's scale is `scl v` and its factor is the reciprocal. -/
theorem kernel_scale {v : EReal} (hv : InRange v) : kscl v = scl v ∧ kinv v = Ideal.div 1 (scl v) := by
  by_cases hs : v < pw 1 ∨ v = ⊤
  · have hscl : scl v = 1 := by unfold scl; rw [if_pos hs]
    have hcnt : BitVec.ofNat 32 (cnt v) = 0#32 ∨ BitVec.ofNat 32 (cnt v) = 255#32 := by
      rcases hs with h | h
      · left
        rw [cnt_eq (n := 0) (by omega) (fun k h1 h2 => by omega)
          (fun k h1 h2 hk => absurd (h.trans_le ((pw_le (le_refl _) (by omega) h2).trans hk)) (lt_irrefl _))]
      · right
        rw [cnt_eq (n := 255) (by omega) (fun k h1 h2 => by rw [h]; exact le_top) (fun k h1 h2 => by omega)]
    have he : kexp v = 0#32 := words_special _ hcnt
    have hone : Ideal.ofBits .f32 (BitVec.ofNat 32 127 <<< 23) = 1 := pw_one
    refine ⟨?_, ?_⟩
    · unfold kscl; rw [he, hscl, ← hone]; congr 1
    · unfold kinv; rw [he, hscl]
      have hd : Ideal.div 1 1 = 1 := by unfold Ideal.div; simp
      rw [hd, ← hone]; congr 1
  · rw [not_or] at hs
    obtain ⟨h1, h2⟩ := hs
    obtain ⟨n, hn1, hn2, hl, hu⟩ := binade (not_lt.1 h1) (lt_top_iff_ne_top.2 h2)
    have hn : n ≤ 252 := by
      rcases hv with h | h
      · by_contra hc
        exact absurd (h.trans_le ((pw_le (by omega) (by omega) (by omega)).trans hl)) (lt_irrefl _)
      · exact absurd h h2
    have hscl := scl_of_binade hn1 (by omega) hl hu
    have hcnt : cnt v = n := cnt_eq (by omega) (fun k a b => (pw_le a b (by omega)).trans hl)
      (fun k a b hk => absurd (hu.trans_le ((pw_le (by omega) (by omega) b).trans hk)) (lt_irrefl _))
    obtain ⟨w1, w2⟩ := words_normal ⟨n, by omega⟩ (by simp only; omega)
    refine ⟨?_, ?_⟩
    · unfold kscl kexp; rw [hcnt, hscl]; exact congrArg _ w1
    · unfold kinv kexp; rw [hcnt, hscl]
      refine (congrArg _ (w2 hn)).trans ?_
      show pw (253 - n) = _
      rw [pw_eq _ (by omega) (by omega), pw_eq _ (by omega) (by omega)]
      unfold Ideal.div
      rw [if_neg (by rw [EReal.coe_eq_zero]; positivity), one_mul, ← EReal.coe_inv, ← zpow_neg]
      refine congrArg (fun z : ℤ => (((2 : ℝ) ^ z : ℝ) : EReal)) ?_
      omega

end Cert.Quant

end
-- ==== Proof.Values.lean ====
/- One block of the kernel at the extended reals: its scale, its codes and its dequantised values, element by element,
   from the block's greatest magnitude. -/
module

public import proofs.«01_k».proof.Proof.Pieces
public import proofs.«01_k».proof.Proof.Scale

@[expose] public section

set_option maxRecDepth 16384

noncomputable section

namespace Cert.Quant

open Idealize.ShloMosaic Cert.KernelIdeal Cert.KernelIdeal.Gen

/-- The greatest magnitude the codes have, and its negative. -/
def lim : EReal := Ideal.ofBits .f32 0x43E00000#32
def nlim : EReal := Ideal.ofBits .f32 0xC3E00000#32
/-- The reciprocal of that magnitude as the program holds it. -/
def rlim : EReal := Ideal.ofBits .f32 0x3B124925#32
/-- The scale of a block of greatest magnitude `a`. -/
def sc (a : EReal) : EReal := scl (a * rlim)
/-- The code of an element `x` of such a block. -/
def code (a x : EReal) : EReal := min lim (max nlim (x * Ideal.div 1 (sc a)))
/-- The magnitude of an element. -/
def mag (x : EReal) : EReal := max x (-x)

/-- The greatest magnitude of a weight block. -/
def wMax (v : Vec Ideal S128x128 .bf16) : EReal := Finset.univ.sup fun p : Fin 128 × Fin 128 => mag (v (ix2 p.1 p.2))
/-- The greatest magnitude of a row of an activation block. -/
def xMax (v : Vec Ideal S96x128 .bf16) (i : Fin 96) : EReal := Finset.univ.sup fun l : Fin 128 => mag (v (ix2 i l))

theorem negInf32 : Ideal.ofBits .f32 0xFF800000#32 = ⊥ := by
  show Ideal.ieee 8 23 0xFF800000#32 = _
  have h : ((0xFF800000#32).extractLsb' 31 1 == 1#1) = true ∧ ((0xFF800000#32).extractLsb' 23 8).toNat = 255
      ∧ ((0xFF800000#32).extractLsb' 0 23).toNat = 0 := by decide +kernel
  obtain ⟨a, b, c⟩ := h
  unfold Ideal.ieee
  simp only [show 8 + 23 = 31 from rfl, a, b, c]
  rw [if_pos (by norm_num)]; rfl

theorem negInf16 : Ideal.ofBits .bf16 0xFF80#16 = ⊥ := by
  show Ideal.ieee 8 7 0xFF80#16 = _
  have h : ((0xFF80#16).extractLsb' 15 1 == 1#1) = true ∧ ((0xFF80#16).extractLsb' 7 8).toNat = 255
      ∧ ((0xFF80#16).extractLsb' 0 7).toNat = 0 := by decide +kernel
  obtain ⟨a, b, c⟩ := h
  unfold Ideal.ieee
  simp only [show 8 + 7 = 15 from rfl, a, b, c]
  rw [if_pos (by norm_num)]; rfl

/-- A fold of `max` from -∞ is a supremum. -/
theorem fold_max_sup {ι : Type} [Fintype ι] (f : ι → EReal) : Finset.univ.fold max ⊥ f = Finset.univ.sup f := rfl

/-- The kernel takes a weight block's greatest magnitude in two steps, over groups of eight rows and then over the rest. -/
theorem wMax_eq (v : Vec Ideal S128x128 .bf16) (h : ∀ (x : Fin 16 × Fin 128) (y : Fin 8), y.val * 16 + x.1.val < 128) :
    (Finset.univ.sup fun x : Fin 16 × Fin 128 => Finset.univ.sup fun y : Fin 8 => mag (v (ix2 ⟨y.val * 16 + x.1.val, h x y⟩ x.2)))
      = wMax v := by
  apply le_antisymm
  · refine Finset.sup_le fun x _ => Finset.sup_le fun y _ => ?_
    exact Finset.le_sup (f := fun p : Fin 128 × Fin 128 => mag (v (ix2 p.1 p.2)))
      (Finset.mem_univ ((⟨y.val * 16 + x.1.val, h x y⟩ : Fin 128), x.2))
  · refine Finset.sup_le fun p _ => ?_
    obtain ⟨a, b⟩ := p
    refine Finset.le_sup_of_le (Finset.mem_univ ((⟨a.val % 16, by omega⟩ : Fin 16), b)) ?_
    refine Finset.le_sup_of_le (Finset.mem_univ (⟨a.val / 16, by omega⟩ : Fin 8)) ?_
    refine le_of_eq (congrArg (fun t => mag (v (ix2 t b))) (Fin.ext ?_))
    show a.val = a.val / 16 * 16 + a.val % 16
    omega

/-- The exponent count of a weight block. -/
theorem wCount (v : Vec Ideal S128x128 .bf16) (i j : Fin 1) : k0_pay37 v (ix2 i j) = BitVec.ofNat 32 (cnt (wMax v * rlim)) := by
  pointwise [k0_pay37]
  rw [fold_count, negInf32, negInf16]
  simp only [fold_max_sup]
  exact congrArg (fun a => BitVec.ofNat 32 (cnt (a * rlim))) (wMax_eq v _)

theorem wScale_apply (v : Vec Ideal S128x128 .bf16) (i j : Fin 1) : wScale v (ix2 i j) = kscl (wMax v * rlim) := by
  unfold wScale
  pointwise [k0_pay41, k0_pay40, k0_pay39, k0_pay38]
  rw [wCount]; rfl

theorem wCode_apply (v : Vec Ideal S128x128 .bf16) (i j : Fin 128) :
    wCode v (ix2 i j) = min lim (max nlim (v (ix2 i j) * kinv (wMax v * rlim))) := by
  unfold wCode
  pointwise [k0_pay42, k0_pay40, k0_pay39, k0_pay38]
  rw [wCount]; rfl

theorem wDeq_apply (v : Vec Ideal S128x128 .bf16) (i j : Fin 128) :
    wDeq v (ix2 i j) = wCode v (ix2 i j) * wScale v (ix2 0 0) := by
  unfold wDeq
  pointwise [k0_pay43]
  rfl

theorem xExp (v : Vec Ideal S96x128 .bf16) (i : Fin 96) (j : Fin 128) : k0_pay7 v (ix2 i j) = kexp (xMax v i * rlim) := by
  pointwise [k0_pay7, k0_pay6]
  rw [fold_count, negInf32]
  rfl

theorem xScale_apply (v : Vec Ideal S96x128 .bf16) (i : Fin 96) (j : Fin 128) : xScale v (ix2 i j) = kscl (xMax v i * rlim) := by
  unfold xScale
  pointwise [k0_pay9, k0_pay8]
  rw [xExp]; rfl

theorem xCode_apply (v : Vec Ideal S96x128 .bf16) (i : Fin 96) (j : Fin 128) :
    xCode v (ix2 i j) = min lim (max nlim (v (ix2 i j) * kinv (xMax v i * rlim))) := by
  unfold xCode
  pointwise [k0_pay10, k0_pay6]
  rw [xExp]; rfl

theorem xDeq_apply (v : Vec Ideal S96x128 .bf16) (i : Fin 96) (j : Fin 128) :
    xDeq v (ix2 i j) = xCode v (ix2 i j) * xScale v (ix2 i j) := by
  have h (a : FVec Ideal S96x128 .bf16) (b c : IVec S96x128 32) :
      k0_pay11 a b c (ix2 i j) = k0_pay10 a b (ix2 i j) * k0_pay9 (F := Ideal) c (ix2 i j) := by
    pointwise [k0_pay11]
  exact h _ _ _

/-! ## Under the precondition -/

/-- A value a bf16 other than NaN can have, by its magnitude. -/
def Num (x : EReal) : Prop := mag x ≤ Ideal.ofBits .f32 0x7F7F0000#32 ∨ mag x = ⊤

theorem rlim_le : ∃ r : ℝ, rlim = (r : EReal) ∧ 0 < r ∧ r ≤ 1 / 256 := by
  show ∃ r : ℝ, Ideal.ieee 8 23 0x3B124925#32 = (r : EReal) ∧ 0 < r ∧ r ≤ 1 / 256
  have h : ((0x3B124925#32).extractLsb' 31 1 == 1#1) = false ∧ ((0x3B124925#32).extractLsb' 23 8).toNat = 118
      ∧ ((0x3B124925#32).extractLsb' 0 23).toNat = 0x124925 := by decide +kernel
  obtain ⟨a, b, c⟩ := h
  unfold Ideal.ieee
  simp only [show 8 + 23 = 31 from rfl, a, b, c]
  rw [if_neg (by norm_num), if_neg (by norm_num)]
  exact ⟨_, rfl, by norm_num [zpow_neg], by norm_num [zpow_neg]⟩

theorem bf16Max : ∃ r : ℝ, Ideal.ofBits .f32 0x7F7F0000#32 = (r : EReal) ∧ 0 < r ∧ r ≤ 2 ^ 128 := by
  show ∃ r : ℝ, Ideal.ieee 8 23 0x7F7F0000#32 = (r : EReal) ∧ 0 < r ∧ r ≤ 2 ^ 128
  have h : ((0x7F7F0000#32).extractLsb' 31 1 == 1#1) = false ∧ ((0x7F7F0000#32).extractLsb' 23 8).toNat = 254
      ∧ ((0x7F7F0000#32).extractLsb' 0 23).toNat = 0x7F0000 := by decide +kernel
  obtain ⟨a, b, c⟩ := h
  unfold Ideal.ieee
  simp only [show 8 + 23 = 31 from rfl, a, b, c]
  rw [if_neg (by norm_num), if_neg (by norm_num)]
  exact ⟨_, rfl, by norm_num, by norm_num⟩

/-- The greatest magnitude of such values, divided by 448, is one of those on which the scale is well formed. -/
theorem inRange_sup {ι : Type} [Fintype ι] (f : ι → EReal) (h : ∀ i, Num (f i)) :
    InRange ((Finset.univ.sup fun i => mag (f i)) * rlim) := by
  obtain ⟨r, hr, hr0, hr1⟩ := rlim_le
  obtain ⟨b, hb, hb0, hb1⟩ := bf16Max
  by_cases ht : ∃ i, mag (f i) = ⊤
  · right
    obtain ⟨i, hi⟩ := ht
    have : (Finset.univ.sup fun i => mag (f i)) = ⊤ := top_le_iff.mp (hi ▸ Finset.le_sup (f := fun i => mag (f i)) (Finset.mem_univ i))
    rw [this, hr, EReal.top_mul_coe_of_pos hr0]
  · left
    push Not at ht
    have hle : (Finset.univ.sup fun i => mag (f i)) ≤ (b : EReal) :=
      Finset.sup_le fun i _ => hb ▸ (h i).resolve_right (ht i)
    have hm : (Finset.univ.sup fun i => mag (f i)) * rlim ≤ (b : EReal) * rlim := by
      rw [hr]; exact mul_le_mul_of_nonneg_right hle (by exact_mod_cast hr0.le)
    refine lt_of_le_of_lt hm ?_
    rw [hr, pw_eq 253 (by norm_num) (by norm_num), ← EReal.coe_mul, EReal.coe_lt_coe_iff]
    have : b * r ≤ 2 ^ 128 * (1 / 256) := mul_le_mul hb1 hr1 hr0.le (by positivity)
    refine lt_of_le_of_lt this ?_
    norm_num

/-- Under the precondition a weight block's scale and codes are those of its greatest magnitude. -/
theorem wScale_eq (v : Vec Ideal S128x128 .bf16) (h : ∀ i j, Num (v (ix2 i j))) (i j : Fin 1) : wScale v (ix2 i j) = sc (wMax v) := by
  rw [wScale_apply]; exact (kernel_scale (inRange_sup (fun p : Fin 128 × Fin 128 => v (ix2 p.1 p.2)) fun p => h p.1 p.2)).1

theorem wCode_eq (v : Vec Ideal S128x128 .bf16) (h : ∀ i j, Num (v (ix2 i j))) (i j : Fin 128) :
    wCode v (ix2 i j) = code (wMax v) (v (ix2 i j)) := by
  rw [wCode_apply, (show kinv (wMax v * rlim) = _ from
    (kernel_scale (inRange_sup (fun p : Fin 128 × Fin 128 => v (ix2 p.1 p.2)) fun p => h p.1 p.2)).2)]
  rfl

theorem wDeq_eq (v : Vec Ideal S128x128 .bf16) (h : ∀ i j, Num (v (ix2 i j))) (i j : Fin 128) :
    wDeq v (ix2 i j) = code (wMax v) (v (ix2 i j)) * sc (wMax v) := by
  rw [wDeq_apply, wCode_eq v h, wScale_eq v h]

/-- And so are those of an activation block's row. -/
theorem xScale_eq (v : Vec Ideal S96x128 .bf16) (h : ∀ i j, Num (v (ix2 i j))) (i : Fin 96) (j : Fin 128) :
    xScale v (ix2 i j) = sc (xMax v i) := by
  rw [xScale_apply]; exact (kernel_scale (inRange_sup (fun l : Fin 128 => v (ix2 i l)) fun l => h i l)).1

theorem xCode_eq (v : Vec Ideal S96x128 .bf16) (h : ∀ i j, Num (v (ix2 i j))) (i : Fin 96) (j : Fin 128) :
    xCode v (ix2 i j) = code (xMax v i) (v (ix2 i j)) := by
  rw [xCode_apply, (show kinv (xMax v i * rlim) = _ from (kernel_scale (inRange_sup (fun l : Fin 128 => v (ix2 i l)) fun l => h i l)).2)]
  rfl

theorem xDeq_eq (v : Vec Ideal S96x128 .bf16) (h : ∀ i j, Num (v (ix2 i j))) (i : Fin 96) (j : Fin 128) :
    xDeq v (ix2 i j) = code (xMax v i) (v (ix2 i j)) * sc (xMax v i) := by
  rw [xDeq_apply, xCode_eq v h, xScale_eq v h]

end Cert.Quant
-- ==== Proof.Body.lean ====
/- What the body leaves in each output's block and in the accumulator at one grid point, element by element, at the
   extended reals: the stores of `Pieces` read back at an index. -/
module

public import proofs.«01_k».proof.Proof.Values

@[expose] public section

set_option maxRecDepth 16384

noncomputable section

namespace Cert.Quant

open Idealize.ShloMosaic Cert.KernelIdeal Cert.KernelIdeal.Gen

/-! ## A family of stores -/

theorem stores_mem {S : Shape} {e : EltTy} (R : ℕ → Rect S) (f : (m : ℕ) → (R m).shape.Idx → Elt Ideal e) {m N : ℕ} (h : m < N) :
    (⟨R m, f m⟩ : View.Piece (Elt Ideal) S e) ∈ stores R f N := by
  induction N with
  | zero => omega
  | succ N ih =>
    rcases Nat.eq_or_lt_of_le (Nat.le_of_lt_succ h) with rfl | h'
    · exact List.mem_cons_self
    · exact List.mem_cons_of_mem _ (ih h')

theorem mem_stores {S : Shape} {e : EltTy} (R : ℕ → Rect S) (f : (m : ℕ) → (R m).shape.Idx → Elt Ideal e) {N : ℕ}
    {p : View.Piece (Elt Ideal) S e} (h : p ∈ stores R f N) : ∃ m < N, p = ⟨R m, f m⟩ := by
  induction N with
  | zero => exact absurd h List.not_mem_nil
  | succ N ih =>
    rcases List.mem_cons.mp h with rfl | h'
    · exact ⟨N, Nat.lt_succ_self N, rfl⟩
    · obtain ⟨m, hm, e⟩ := ih h'
      exact ⟨m, by omega, e⟩

/-- Where the stores of a family agree with one function of the index, the stores read back are that function at every
    index a store holds. -/
theorem stores_apply {S : Shape} {e : EltTy} (R : ℕ → Rect S) (f : (m : ℕ) → (R m).shape.Idx → Elt Ideal e) (N : ℕ)
    (G : S.Idx → Elt Ideal e) (hG : ∀ m < N, ∀ x, f m x = G ((R m).emb x)) (y : S.Idx)
    (hy : ∃ m < N, ∃ x, (R m).emb x = y) : View.canon (stores R f N) y = G y := by
  refine View.canon_apply_of_pieces G _ ?_ y ?_
  · intro p hp x
    obtain ⟨m, hm, rfl⟩ := mem_stores R f hp
    exact hG m hm x
  · obtain ⟨m, hm, x, rfl⟩ := hy
    exact ⟨_, stores_mem R f hm, (R m).idx_mem x⟩

/-! ## Weight codes -/

theorem wRect_emb (p : ℕ) (x : (wRect p).shape.Idx) :
    (wRect p).emb x = ix2 ⟨p % 4 * 128 + (x 0).val, by have : (x 0).val < 128 := (x 0).isLt; omega⟩
      ⟨p / 4 % 32 * 128 + (x 1).val, by have : (x 1).val < 128 := (x 1).isLt; omega⟩ := by
  funext a
  fin_cases a
  · refine Fin.ext ?_
    show p % 4 * 128 + 1 * (x 0).val = p % 4 * 128 + (x 0).val
    omega
  · refine Fin.ext ?_
    show p / 4 % 32 * 128 + 1 * (x 1).val = p / 4 % 32 * 128 + (x 1).val
    omega

theorem xRect_emb (j : ℕ) (x : (xRect j).shape.Idx) :
    (xRect j).emb x = ix2 (⟨(x 0).val, (x 0).isLt⟩ : Fin 96)
      ⟨j % 4 * 128 + (x 1).val, by have : (x 1).val < 128 := (x 1).isLt; omega⟩ := by
  funext a
  fin_cases a
  · refine Fin.ext ?_
    show 0 + 1 * (x 0).val = (x 0).val
    omega
  · refine Fin.ext ?_
    show j % 4 * 128 + 1 * (x 1).val = j % 4 * 128 + (x 1).val
    omega

theorem aRect_emb (t : ℕ) (x : (aRect t).shape.Idx) :
    (aRect t).emb x = ix2 (⟨(x 0).val, (x 0).isLt⟩ : Fin 96)
      ⟨t % 16 * 256 + (x 1).val, by have : (x 1).val < 256 := (x 1).isLt; omega⟩ := by
  funext a
  fin_cases a
  · refine Fin.ext ?_
    show 0 + 1 * (x 0).val = (x 0).val
    omega
  · refine Fin.ext ?_
    show t % 16 * 256 + 1 * (x 1).val = t % 16 * 256 + (x 1).val
    omega

/-- The row, column or lane of a block an index falls on. -/
def lo128 {n : ℕ} (i : Fin n) : Fin 128 := ⟨i.val % 128, Nat.mod_lt _ (by norm_num)⟩

theorem wcP_apply (L : ℕ → Vec Ideal S128x128 .bf16) (i : Fin 512) (j : Fin 4096) :
    View.canon (wcP L 128) (ix2 i j) = wCode (L (j.val / 128 * 4 + i.val / 128)) (ix2 (lo128 i) (lo128 j)) := by
  refine stores_apply wRect (fun m => wCode (L m)) 128
    (fun y => wCode (L ((y 1).val / 128 * 4 + (y 0).val / 128)) (ix2 (lo128 (y 0)) (lo128 (y 1)))) ?_ (ix2 i j) ?_
  · intro m hm x
    have h0 : (x 0).val < 128 := (x 0).isLt
    have h1 : (x 1).val < 128 := (x 1).isLt
    rw [wRect_emb]
    show wCode (L m) x = wCode (L ((m / 4 % 32 * 128 + (x 1).val) / 128 * 4 + (m % 4 * 128 + (x 0).val) / 128)) _
    rw [show (m / 4 % 32 * 128 + (x 1).val) / 128 * 4 + (m % 4 * 128 + (x 0).val) / 128 = m by omega]
    congr 1
    funext a
    fin_cases a
    · refine Fin.ext ?_
      show (x 0).val = (m % 4 * 128 + (x 0).val) % 128
      omega
    · refine Fin.ext ?_
      show (x 1).val = (m / 4 % 32 * 128 + (x 1).val) % 128
      omega
  · refine ⟨j.val / 128 * 4 + i.val / 128, by omega, ix2 (lo128 i) (lo128 j), ?_⟩
    rw [wRect_emb]
    funext a
    fin_cases a
    · refine Fin.ext ?_
      show (j.val / 128 * 4 + i.val / 128) % 4 * 128 + i.val % 128 = i.val
      omega
    · refine Fin.ext ?_
      show (j.val / 128 * 4 + i.val / 128) / 4 % 32 * 128 + j.val % 128 = j.val
      omega

/-! ## Activation blocks -/

theorem xP_apply {e : EltTy} (f : ℕ → Vec Ideal S96x128 e) (i : Fin 96) (q : Fin 512) :
    View.canon (stores xRect (fun m => f m) 4) (ix2 i q) = f (q.val / 128) (ix2 i (lo128 q)) := by
  refine stores_apply xRect (fun m => f m) 4 (fun y => f ((y 1).val / 128) (ix2 (y 0) (lo128 (y 1)))) ?_ (ix2 i q) ?_
  · intro m hm x
    have h1 : (x 1).val < 128 := (x 1).isLt
    rw [xRect_emb]
    show f m x = f ((m % 4 * 128 + (x 1).val) / 128) _
    rw [show (m % 4 * 128 + (x 1).val) / 128 = m by omega]
    congr 1
    funext a
    fin_cases a
    · rfl
    · refine Fin.ext ?_
      show (x 1).val = (m % 4 * 128 + (x 1).val) % 128
      omega
  · refine ⟨q.val / 128, by omega, ix2 i (lo128 q), ?_⟩
    rw [xRect_emb]
    funext a
    fin_cases a
    · rfl
    · refine Fin.ext ?_
      show q.val / 128 % 4 * 128 + q.val % 128 = q.val
      omega

/-! ## Scales -/

theorem cmp_eq {a b : ℕ} (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    rw [BitVec.toNat_ofNat, BitVec.toNat_ofNat, Nat.mod_eq_of_lt ha, Nat.mod_eq_of_lt hb] at this
    exact this
  · rintro rfl; rfl

theorem wsN_apply (L : ℕ → Vec Ideal S128x128 .bf16) (n : ℕ) (hn : n ≤ 128) (r : Fin 4) (c : Fin 32)
    (h : c.val * 4 + r.val < n) : wsN L n (ix2 r c) = wScale (L (c.val * 4 + r.val)) (ix2 0 0) := by
  induction n with
  | zero => omega
  | succ n ih =>
    pointwise [wsN]
    rw [cmp_eq (by omega) (by omega), cmp_eq (by omega) (by omega)]
    by_cases e : c.val * 4 + r.val = n
    · rw [decide_eq_true (show c.val = n / 4 by omega), decide_eq_true (show r.val = n % 4 by omega), e]
      rfl
    · have : ¬(c.val = n / 4 ∧ r.val = n % 4) := by omega
      rw [← ih (by omega) (by omega)]
      rcases Decidable.not_and_iff_or_not.mp this with h1 | h1 <;> rw [decide_eq_false h1]
      · cases decide (r.val = n % 4) <;> rfl
      · cases decide (c.val = n / 4) <;> rfl

theorem xsN_apply (k : ℕ) (hk : k < 28) (L : ℕ → Vec Ideal S96x128 .bf16) (v : Vec Ideal S96x112 .f32) (n : ℕ) (hn : n ≤ 4)
    (r : Fin 96) (c : Fin 112) :
    xsN (BitVec.ofNat 32 k) L v n (ix2 r c) = if 4 * k ≤ c.val ∧ c.val < 4 * k + n then
      xScale (L (c.val - 4 * k)) (ix2 r ⟨c.val, by omega⟩) else v (ix2 r c) := by
  induction n with
  | zero => rw [if_neg (by omega)]; rfl
  | succ n ih =>
    pointwise [xsN]
    rw [show Scalar.addi (Scalar.muli (BitVec.ofNat 32 k) 4#32) (BitVec.ofNat 32 n) = BitVec.ofNat 32 (4 * k + n) by
      show BitVec.ofNat 32 k * 4#32 + BitVec.ofNat 32 n = _
      apply BitVec.eq_of_toNat_eq
      simp [BitVec.toNat_add, BitVec.toNat_mul]
      omega, cmp_eq (by omega) (by omega), ih (by omega)]
    by_cases e : c.val = 4 * k + n
    · rw [decide_eq_true e, if_neg (by omega), if_pos (by omega), show c.val - 4 * k = n by omega]
      rfl
    · rw [decide_eq_false e]
      by_cases h : 4 * k ≤ c.val ∧ c.val < 4 * k + n
      · rw [if_pos h, if_pos (by omega)]; rfl
      · rw [if_neg h, if_neg (by omega)]; rfl

/-! ## The accumulator -/

theorem wCol_apply (L : ℕ → Vec Ideal S128x128 .bf16) (p : ℕ) (q : Fin 512) (n : Fin 128) :
    wCol L p (ix2 q n) = wDeq (L (4 * p + q.val / 128)) (ix2 (lo128 q) n) := by
  pointwise [wCol]
  have key (a : ℕ) (b : Fin 128) (ha : a = 4 * p + q.val / 128) (hb : b.val = q.val % 128) :
      wDeq (L a) (ix2 b n) = wDeq (L (4 * p + q.val / 128)) (ix2 (lo128 q) n) := by
    rw [ha, show b = lo128 q from Fin.ext hb]
  by_cases h1 : q.val < 128
  · rw [dif_pos h1]
    exact key _ _ (by omega) (by show q.val = _; omega)
  rw [dif_neg h1]
  by_cases h2 : q.val - 128 < 128
  · rw [dif_pos h2]
    exact key _ _ (by omega) (by show q.val - 128 = _; omega)
  rw [dif_neg h2]
  by_cases h3 : q.val - 128 - 128 < 128
  · rw [dif_pos h3]
    exact key _ _ (by omega) (by show q.val - 128 - 128 = _; omega)
  rw [dif_neg h3]
  exact key _ _ (by omega) (by show q.val - 128 - 128 - 128 = _; omega)

/-- What one chunk adds to the accumulator: the dequantised activations' row times the dequantised weights' column. -/
def part (L : ℕ → Vec Ideal S128x128 .bf16) (xd : Vec Ideal S96x512 .bf16) (r : Fin 96) (n : Fin 4096) : EReal :=
  ∑ q : Fin 512, xd (ix2 r q) * wDeq (L (n.val / 128 * 4 + q.val / 128)) (ix2 (lo128 q) (lo128 n))

theorem aTile_apply (L : ℕ → Vec Ideal S128x128 .bf16) (t : ℕ) (ht : t < 16) (a : Vec Ideal S96x256 .f32)
    (xd : Vec Ideal S96x512 .bf16) (r : Fin 96) (n : Fin 256) :
    aTile L t a xd (ix2 r n) = a (ix2 r n) + part L xd r ⟨t * 256 + n.val, by omega⟩ := by
  pointwise [aTile]
  refine congrArg (fun s => a (ix2 r n) + s) (Finset.sum_congr rfl fun q _ => congrArg (fun w => xd (ix2 r q) * w) ?_)
  have hlt : t * 256 + n.val < 4096 := by omega
  have key (c : ℕ) (b : Fin 128) (hc : 4 * c = (t * 256 + n.val) / 128 * 4) (hb : b.val = (t * 256 + n.val) % 128) :
      wCol L c (ix2 q b) = wDeq (L ((t * 256 + n.val) / 128 * 4 + q.val / 128)) (ix2 (lo128 q) (lo128 (⟨t * 256 + n.val, hlt⟩ : Fin 4096))) := by
    obtain rfl : b = lo128 (⟨t * 256 + n.val, hlt⟩ : Fin 4096) := Fin.ext hb
    rw [wCol_apply, hc]
  by_cases h1 : n.val < 128
  · rw [dif_pos h1]
    exact key _ _ (by omega) (by show n.val = _; omega)
  · rw [dif_neg h1]
    exact key _ _ (by omega) (by show n.val - 128 = _; omega)

theorem accP_apply (L : ℕ → Vec Ideal S128x128 .bf16) (A : Vec Ideal S96x4096 .f32) (xd : Vec Ideal S96x512 .bf16)
    (r : Fin 96) (n : Fin 4096) :
    View.canon (accP L (fun t x => A ((aRect t).emb x)) xd 16) (ix2 r n) = A (ix2 r n) + part L xd r n := by
  refine stores_apply aRect (fun m => aTile L m (fun x => A ((aRect m).emb x)) xd) 16
    (fun y => A y + part L xd (y 0) (y 1)) ?_ (ix2 r n) ?_
  · intro m hm x
    have h1 : (x 1).val < 256 := (x 1).isLt
    rw [show x = ix2 (x 0) (x 1) by funext a; fin_cases a <;> rfl]
    refine (aTile_apply L m hm _ xd (x 0) (x 1)).trans ?_
    refine congrArg₂ (· + ·) rfl (congrArg₂ (part L xd) (Fin.ext ?_) (Fin.ext ?_))
    · show (x 0).val = 0 + 1 * (x 0).val
      omega
    · show m * 256 + (x 1).val = m % 16 * 256 + 1 * (x 1).val
      omega
  · refine ⟨n.val / 256, by omega, ix2 r ⟨n.val % 256, by omega⟩, ?_⟩
    rw [aRect_emb]
    funext a
    fin_cases a
    · rfl
    · refine Fin.ext ?_
      show n.val / 256 % 16 * 256 + n.val % 256 = n.val
      omega

theorem accP0_apply (v : Memref sig .tc .vmem S96x4096 .f32) (L : ℕ → Vec Ideal S128x128 .bf16) (xd : Vec Ideal S96x512 .bf16)
    (N : ℕ) (hN : N ≤ 16) (r : Fin 96) (n : Fin 4096) :
    View.canon (accP0 v L xd N) (ix2 r n) = if n.val < N * 256 then part L xd r n else 0 := by
  induction N generalizing r n with
  | zero =>
    rw [if_neg (by omega)]
    show View.canon [(⟨yRect, k0_pay3 (F := Ideal)⟩ : View.Piece (Elt Ideal) S96x4096 .f32)] (ix2 r n) = 0
    rw [show View.canon [(⟨yRect, k0_pay3 (F := Ideal)⟩ : View.Piece (Elt Ideal) S96x4096 .f32)] = k0_pay3 (F := Ideal) from
      View.canon_unit_zero (S := S96x4096) (off := ![0, 0]) (by funext a; fin_cases a <;> rfl) _ _]
    pointwise [k0_pay3]
  | succ N ih =>
    by_cases h : N * 256 ≤ n.val ∧ n.val < (N + 1) * 256
    · rw [if_pos h.2]
      have e : (ix2 r n : S96x4096.Idx) = (aRect N).emb (ix2 r (⟨n.val - N * 256, by omega⟩ : Fin 256)) := by
        rw [aRect_emb]
        funext a
        fin_cases a
        · rfl
        · refine Fin.ext ?_
          show n.val = N % 16 * 256 + (n.val - N * 256)
          omega
      conv_lhs => rw [e]
      refine (View.canon_cons_emb (aRect N) _ (accP0 v L xd N) _).trans ?_
      refine (aTile_apply L N (by omega) _ xd r _).trans ?_
      rw [View.readCov_eq_canon']
      show View.canon (accP0 v L xd N) ((aRect N).emb (ix2 r (⟨n.val - N * 256, by omega⟩ : Fin 256))) + _ = _
      rw [← e, ih (by omega), if_neg (by omega), zero_add]
      refine congrArg (part L xd r) (Fin.ext ?_)
      show N * 256 + (n.val - N * 256) = n.val
      omega
    · refine (View.canon_cons_of_not_mem _ (accP0 v L xd N) ?_).trans ?_
      · intro hm
        obtain ⟨x, hx⟩ := (aRect N).exists_idx_of_mem hm
        have h1 : (x 1).val < 256 := (x 1).isLt
        have := congrArg (fun y : S96x4096.Idx => (y 1).val) ((aRect_emb N x).symm.trans hx)
        have : N % 16 * 256 + (x 1).val = n.val := this
        omega
      · rw [ih (by omega)]
        by_cases h2 : n.val < N * 256
        · rw [if_pos h2, if_pos (by omega)]
        · rw [if_neg h2, if_neg (by omega)]

end Cert.Quant
-- ==== Proof.Step.lean ====
/- What one grid point leaves in each output block and in the accumulator, as a function of the two input blocks and of
   what the grid point before it left. -/
module

public import Idealize.ShloMosaic.Lib.WholeRead
public import proofs.«01_k».proof.Proof.Body
public import proofs.«01_k».proof.Proof.Gen.KernelIdeal.Value

@[expose] public section

set_option maxRecDepth 16384

noncomputable section

namespace Cert.Quant

open Idealize.ShloMosaic Cert.KernelIdeal Cert.KernelIdeal.Gen Cert.KernelIdeal.Value

/-- What a grid point hands on: the output blocks in order, then the accumulator. -/
abbrev St : Type := Vec Ideal S96x4096 .bf16 × Vec Ideal S96x512 .fp8e4m3 × Vec Ideal S96x112 .f32
  × Vec Ideal S512x4096 .fp8e4m3 × Vec Ideal S1x4x32 .f32 × Vec Ideal S96x4096 .f32

/-! ## The loads -/

/-- Weight block `p` of a chunk of weights. -/
def bW (w : Vec Ideal S512x4096 .bf16) (p : ℕ) : Vec Ideal S128x128 .bf16 := fun y => w ((wRect p).emb y)
/-- Activation block `j` of a chunk of activations. -/
def bX (x : Vec Ideal S96x512 .bf16) (j : ℕ) : Vec Ideal S96x128 .bf16 := fun y => x ((xRect j).emb y)
/-- The dequantised chunk of activations. -/
def bXd (x : Vec Ideal S96x512 .bf16) : Vec Ideal S96x512 .bf16 := View.canon (xdP (bX x) 4)

theorem ldW_eq (a : Memref sig .tc .vmem S512x4096 .bf16) (ha : a.IsWhole) (w : Vec Ideal S512x4096 .bf16) :
    ldW a ha w = bW w := by
  funext p y; exact Memref.IsWhole.readAt_unread ha w (wRect p).toLoadRect y
theorem ldX_eq (a : Memref sig .tc .vmem S96x512 .bf16) (ha : a.IsWhole) (x : Vec Ideal S96x512 .bf16) :
    ldX a ha x = bX x := by
  funext p y; exact Memref.IsWhole.readAt_unread ha x (xRect p).toLoadRect y
theorem ldA_eq (a : Memref sig .tc .vmem S96x4096 .f32) (ha : a.IsWhole) (x : Vec Ideal S96x4096 .f32) :
    ldA a ha x = fun t y => x ((aRect t).emb y) := by
  funext p y; exact Memref.IsWhole.readAt_unread ha x (aRect p).toLoadRect y

/-- A whole block read through the rectangle at offset zero is the block. -/
theorem unit_zero_idx {S : Shape} {off : Fin S.rank → ℕ} (hz : off = fun _ => 0) (inb : ∀ a, off a + S.size a ≤ S.size a)
    (y : S.Idx) : (Rect.unit off S.size inb).toLoadRect.idx y = y := by
  subst hz
  funext a; apply Fin.ext
  show 0 + 1 * (y a).val = (y a).val
  omega

theorem ldXd_eq (a : Memref sig .tc .vmem S96x512 .bf16) (ha : a.IsWhole) (b : Memref sig .tc .vmem S96x512 .bf16)
    (x : Vec Ideal S96x512 .bf16) : ldXd a ha b x = bXd x := by
  unfold ldXd bXd
  rw [ldX_eq, View.readCov_eq_canon']
  funext y
  exact congrArg _ (unit_zero_idx (S := S96x512) (off := ![0, 0]) (by funext a; fin_cases a <;> rfl) _ y)

theorem ldXs_eq (a : Memref sig .tc .vmem S96x112 .f32) (ha : a.IsWhole) (v : Vec Ideal S96x112 .f32) :
    k0_pay5 (View.readAt (Elt Ideal) a.view xsRect.toLoadRect (ha.unread v)) = v := by
  have h : View.readAt (Elt Ideal) a.view xsRect.toLoadRect (ha.unread v) = v := by
    funext y
    refine (Memref.IsWhole.readAt_unread ha v _ y).trans ?_
    exact congrArg v (unit_zero_idx (S := S96x112) (off := ![0, 0]) (by funext a; fin_cases a <;> rfl) _ y)
  rw [h]; funext y
  pointwise [k0_pay5]

theorem ldXs0_eq (a : Memref sig .tc .vmem S96x112 .f32) :
    k0_pay5 (F := Ideal) (a.view.readCov (Val := Elt Ideal) [⟨xsRect, k0_pay4 (F := Ideal)⟩] xsRect.toLoadRect) = k0_pay4 := by
  have h : a.view.readCov (Val := Elt Ideal) [⟨xsRect, k0_pay4 (F := Ideal)⟩] xsRect.toLoadRect = k0_pay4 (F := Ideal) := by
    rw [View.readCov_eq_canon']
    funext y
    rw [unit_zero_idx (S := S96x112) (off := ![0, 0]) (by funext a; fin_cases a <;> rfl) _ y]
    exact congrFun (View.canon_unit_zero (S := S96x112) (off := ![0, 0]) (by funext a; fin_cases a <;> rfl) _ _) y
  rw [h]; funext y
  pointwise [k0_pay5]

theorem ldY_eq (a : Memref sig .tc .vmem S96x4096 .f32) (L : List (View.Piece (Elt Ideal) S96x4096 .f32)) :
    a.view.readCov L yRect.toLoadRect = View.canon L := by
  rw [View.readCov_eq_canon']
  funext y
  exact congrArg _ (unit_zero_idx (S := S96x4096) (off := ![0, 0]) (by funext a; fin_cases a <;> rfl) _ y)

theorem k0_pay2_apply (v : Vec Ideal S96x4096 .f32) (r : Fin 96) (n : Fin 4096) : k0_pay2 v (ix2 r n) = v (ix2 r n) := by
  pointwise [k0_pay2]

/-! ## One grid point -/

variable (m : (b : Loc nD τ sig) → Buf (Elt Ideal) b) (c : Dev nD) (t : Fin cfg0.N) (acc : St)

/-- The chunk of activations and the chunk of weights of a grid point. -/
abbrev chX : Vec Ideal S96x512 .bf16 := iblk m c 0 t
abbrev chW : Vec Ideal S512x4096 .bf16 := iblk m c 1 t

/-- The three kinds of grid point. -/
theorem kinds (P : Prop) (hA : t.val % 28 = 0 → ¬t.val % 28 = 27 → P) (hB : ¬t.val % 28 = 0 → ¬t.val % 28 = 27 → P)
    (hC : ¬t.val % 28 = 0 → t.val % 28 = 27 → P) : P := by
  by_cases h0 : t.val % 28 = 0
  · exact hA h0 (by omega)
  · by_cases h1 : t.val % 28 = 27
    · exact hC h0 h1
    · exact hB h0 h1

/-- Every grid point leaves the codes of its chunk of activations. -/
theorem st_3 : (stAt0 m c t.val t.isLt acc).2.1 = View.canon (xcP (bX (chX m c t)) 4) := by
  refine kinds t _ (fun h0 h1 => ?_) (fun h0 h1 => ?_) (fun h0 h1 => ?_)
  · rw [stAt0_A m c t acc h0 h1]
    dsimp only; unfold out0_A_3
    rw [View.read_writes_junk_eq_canon, piecesA_3, ldX_eq]
  · rw [stAt0_B m c t acc h0 h1]
    dsimp only; unfold out0_B_3
    rw [View.read_writes_junk_eq_canon, piecesB_3, ldX_eq]
  · rw [stAt0_C m c t acc h0 h1]
    dsimp only; unfold out0_C_3
    rw [View.read_writes_junk_eq_canon, piecesC_3, ldX_eq]

/-- Every grid point leaves the codes of its chunk of weights. -/
theorem st_5 : (stAt0 m c t.val t.isLt acc).2.2.2.1 = View.canon (wcP (bW (chW m c t)) 128) := by
  refine kinds t _ (fun h0 h1 => ?_) (fun h0 h1 => ?_) (fun h0 h1 => ?_)
  · rw [stAt0_A m c t acc h0 h1]
    dsimp only; unfold out0_A_5
    rw [View.read_writes_junk_eq_canon, piecesA_5, ldW_eq]
  · rw [stAt0_B m c t acc h0 h1]
    dsimp only; unfold out0_B_5
    rw [View.read_writes_junk_eq_canon, piecesB_5, ldW_eq]
  · rw [stAt0_C m c t acc h0 h1]
    dsimp only; unfold out0_C_5
    rw [View.read_writes_junk_eq_canon, piecesC_5, ldW_eq]

/-- One store through the whole rectangle leaves what it stores. -/
theorem canon_ws (v : Vec Ideal S1x4x32 .f32) : View.canon [⟨wsRect, v⟩] = v :=
  View.canon_unit_zero (S := S1x4x32) (off := ![0, 0, 0]) (by funext a; fin_cases a <;> rfl) _ _
theorem canon_y (v : Vec Ideal S96x4096 .bf16) : View.canon [⟨yRect, v⟩] = v :=
  View.canon_unit_zero (S := S96x4096) (off := ![0, 0]) (by funext a; fin_cases a <;> rfl) _ _
theorem canon_xs (v : Vec Ideal S96x112 .f32) (L : List (View.Piece (Elt Ideal) S96x112 .f32)) :
    View.canon (⟨xsRect, v⟩ :: L) = v :=
  View.canon_cons_unit_zero (S := S96x112) (off := ![0, 0]) (by funext a; fin_cases a <;> rfl) _ _ _

/-- Every grid point leaves the scales of its chunk of weights. -/
theorem st_6 : (stAt0 m c t.val t.isLt acc).2.2.2.2.1 = k0_pay1 (wsN (bW (chW m c t)) 128) := by
  refine kinds t _ (fun h0 h1 => ?_) (fun h0 h1 => ?_) (fun h0 h1 => ?_)
  · rw [stAt0_A m c t acc h0 h1]
    dsimp only; unfold out0_A_6
    rw [View.read_writes_junk_eq_canon, piecesA_6, ldW_eq, canon_ws]
  · rw [stAt0_B m c t acc h0 h1]
    dsimp only; unfold out0_B_6
    rw [View.read_writes_junk_eq_canon, piecesB_6, ldW_eq, canon_ws]
  · rw [stAt0_C m c t acc h0 h1]
    dsimp only; unfold out0_C_6
    rw [View.read_writes_junk_eq_canon, piecesC_6, ldW_eq, canon_ws]

/-- The only coordinate of a grid point is its number. -/
theorem coords_val : ∀ t : Fin cfg0.N, (grid0.coords t 0).val = t.val :=
  (by decide +kernel : ∀ t : Fin grid0.N, (grid0.coords t 0).val = t.val)

/-- The first grid point starts the activation scales from zeros. -/
theorem st_4A (h0 : t.val % 28 = 0) : (stAt0 m c t.val t.isLt acc).2.2.1
    = xsN (BitVec.ofNat 32 t.val) (bX (chX m c t)) (k0_pay4 (F := Ideal)) 4 := by
  rw [stAt0_A m c t acc h0 (by omega)]
  dsimp only; unfold out0_A_4
  rw [View.read_writes_junk_eq_canon, piecesA_4, ldX_eq, canon_xs, ldXs0_eq, coords_val]

/-- A later grid point adds its activation scales to the ones before. -/
theorem st_4BC (h0 : ¬t.val % 28 = 0) : (stAt0 m c t.val t.isLt acc).2.2.1
    = xsN (BitVec.ofNat 32 t.val) (bX (chX m c t)) acc.2.2.1 4 := by
  refine kinds t _ (fun h h1 => absurd h h0) (fun h0 h1 => ?_) (fun h0 h1 => ?_)
  · rw [stAt0_B m c t acc h0 h1]
    dsimp only; unfold out0_B_4
    rw [View.read_writes_junk_eq_canon, piecesB_4, ldX_eq, canon_xs, ldXs_eq, coords_val]
  · rw [stAt0_C m c t acc h0 h1]
    dsimp only; unfold out0_C_4
    rw [View.read_writes_junk_eq_canon, piecesC_4, ldX_eq, canon_xs, ldXs_eq, coords_val]

/-- The first grid point leaves its own partial product in the accumulator. -/
theorem st_accA (h0 : t.val % 28 = 0) (r : Fin 96) (n : Fin 4096) : (stAt0 m c t.val t.isLt acc).2.2.2.2.2 (ix2 r n)
    = part (bW (chW m c t)) (bXd (chX m c t)) r n := by
  rw [stAt0_A m c t acc h0 (by omega)]
  dsimp only; unfold sout0_A_0
  rw [View.read_writes_junk_eq_canon, piecesA_acc, ldW_eq, ldXd_eq, accP0_apply _ _ _ _ le_rfl, if_pos (by have := n.isLt; omega)]

/-- A later grid point adds its partial product to the accumulator. -/
theorem st_accBC (h0 : ¬t.val % 28 = 0) (r : Fin 96) (n : Fin 4096) : (stAt0 m c t.val t.isLt acc).2.2.2.2.2 (ix2 r n)
    = acc.2.2.2.2.2 (ix2 r n) + part (bW (chW m c t)) (bXd (chX m c t)) r n := by
  refine kinds t _ (fun h h1 => absurd h h0) (fun h0 h1 => ?_) (fun h0 h1 => ?_)
  · rw [stAt0_B m c t acc h0 h1]
    dsimp only; unfold sout0_B_0
    rw [View.read_writes_junk_eq_canon, piecesB_acc, ldW_eq, ldXd_eq, ldA_eq]
    exact accP_apply _ acc.2.2.2.2.2 _ r n
  · rw [stAt0_C m c t acc h0 h1]
    dsimp only; unfold sout0_C_0
    rw [View.read_writes_junk_eq_canon, piecesC_acc, ldW_eq, ldXd_eq, ldA_eq]
    exact accP_apply _ acc.2.2.2.2.2 _ r n

/-- The last grid point writes the accumulator out. -/
theorem st_2 (h1 : t.val % 28 = 27) (r : Fin 96) (n : Fin 4096) : (stAt0 m c t.val t.isLt acc).1 (ix2 r n)
    = acc.2.2.2.2.2 (ix2 r n) + part (bW (chW m c t)) (bXd (chX m c t)) r n := by
  rw [stAt0_C m c t acc (by omega) h1]
  dsimp only; unfold out0_C_2
  rw [View.read_writes_junk_eq_canon, piecesC_2, ldW_eq, ldXd_eq, ldA_eq, canon_y, ldY_eq, k0_pay2_apply]
  exact accP_apply _ acc.2.2.2.2.2 _ r n

end Cert.Quant
-- ==== Proof.Spec.lean ====
/- The quantised matrix product as functions of its two operands, over extended reals: the scale of every block, the code
   of every element, and the product of the dequantised operands. -/
module

public import proofs.«01_k».proof.Proof.Values

@[expose] public section

noncomputable section

namespace Cert.Quant

open Idealize.ShloMosaic

/-- The activations and the weights. -/
abbrev Acts : Type := Fin 96 → Fin 14336 → EReal
abbrev Wts : Type := Fin 14336 → Fin 4096 → EReal

/-- The greatest magnitude among 128 consecutive lanes of a row of the activations. -/
def amx (X : Acts) (r : Fin 96) (b : Fin 112) : EReal :=
  Finset.univ.sup fun l : Fin 128 => mag (X r ⟨b.val * 128 + l.val, by omega⟩)
/-- The greatest magnitude in a 128 by 128 block of the weights. -/
def amw (W : Wts) (kb : Fin 112) (nb : Fin 32) : EReal :=
  Finset.univ.sup fun p : Fin 128 × Fin 128 => mag (W ⟨kb.val * 128 + p.1.val, by omega⟩ ⟨nb.val * 128 + p.2.val, by omega⟩)

/-- The block of 128 that an index falls in. -/
def kblk (k : Fin 14336) : Fin 112 := ⟨k.val / 128, by omega⟩
def nblk (n : Fin 4096) : Fin 32 := ⟨n.val / 128, by omega⟩

/-- The scales. -/
def XS (X : Acts) (r : Fin 96) (b : Fin 112) : EReal := sc (amx X r b)
def WS (W : Wts) (kb : Fin 112) (nb : Fin 32) : EReal := sc (amw W kb nb)
/-- The codes. -/
def XC (X : Acts) (r : Fin 96) (k : Fin 14336) : EReal := code (amx X r (kblk k)) (X r k)
def WC (W : Wts) (k : Fin 14336) (n : Fin 4096) : EReal := code (amw W (kblk k) (nblk n)) (W k n)
/-- The product of the dequantised operands. -/
def YY (X : Acts) (W : Wts) (r : Fin 96) (n : Fin 4096) : EReal :=
  ∑ k : Fin 14336, (XC X r k * XS X r (kblk k)) * (WC W k n * WS W (kblk k) (nblk n))

end Cert.Quant
-- ==== Proof.Sweep.lean ====
/- The kernel's results at an index: the sweep over the grid, point by point, as the functions of the two operands. -/
module

public import proofs.«01_k».proof.Proof.Step
public import proofs.«01_k».proof.Proof.Spec

@[expose] public section

set_option maxRecDepth 16384

noncomputable section

namespace Cert.Quant

open Idealize.ShloMosaic Cert.KernelIdeal Cert.KernelIdeal.Gen Cert.KernelIdeal.Value

variable (m : (b : Loc nD τ sig) → Buf (Elt Ideal) b) (c : Dev nD)

/-- The activations and the weights as the kernel finds them. -/
def KX : Acts := fun r k => (V m c main_v0 : Vec Ideal S96x14336 .bf16) (ix2 r k)
def KW : Wts := fun k n => (V m c main_arg1 : Vec Ideal S14336x4096 .bf16) (ix2 k n)

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = t.val ∧ win0_1.index t 1 = 0 :=
  (by decide +kernel : ∀ t : Fin grid0.N, win0_1.index t 0 = t.val ∧ win0_1.index t 1 = 0)

theorem lt28 (t : Fin cfg0.N) : t.val < 28 := lt_of_lt_of_eq t.isLt N_0

/-- Element `(r, q)` of the chunk of activations at point `t` is element `(r, 512 t + q)` of the activations. -/
theorem chX_apply (t : Fin cfg0.N) (r : Fin 96) (q : Fin 512) :
    chX m c t (ix2 r q) = KX m c r ⟨512 * t.val + q.val, by have := lt28 t; omega⟩ := by
  unfold chX iblk
  rw [View.read_apply]
  show V m c main_v0 _ = V m c main_v0 _
  refine congrArg _ ?_
  funext a
  apply Fin.ext
  match a with
  | ⟨0, _⟩ => show win0_0.index t 0 * 96 + 1 * r.val = r.val; rw [(idx0 t).1]; omega
  | ⟨1, _⟩ => show win0_0.index t 1 * 512 + 1 * q.val = 512 * t.val + q.val; rw [(idx0 t).2]; omega

/-- Element `(i, n)` of the chunk of weights at point `t` is element `(512 t + i, n)` of the weights. -/
theorem chW_apply (t : Fin cfg0.N) (i : Fin 512) (n : Fin 4096) :
    chW m c t (ix2 i n) = KW m c ⟨512 * t.val + i.val, by have := lt28 t; omega⟩ n := by
  unfold chW iblk
  rw [View.read_apply]
  show V m c main_arg1 _ = V m c main_arg1 _
  refine congrArg _ ?_
  funext a
  apply Fin.ext
  match a with
  | ⟨0, _⟩ => show win0_1.index t 0 * 512 + 1 * i.val = 512 * t.val + i.val; rw [(idx1 t).1]; omega
  | ⟨1, _⟩ => show win0_1.index t 1 * 4096 + 1 * n.val = n.val; rw [(idx1 t).2]; omega

/-- Element `(r, l)` of activation block `j` at point `t`. -/
theorem bX_apply (t : Fin cfg0.N) (j : ℕ) (hj : j < 4) (r : Fin 96) (l : Fin 128) (k : Fin 14336)
    (hk : k.val = 512 * t.val + j * 128 + l.val) : bX (chX m c t) j (ix2 r l) = KX m c r k := by
  have e : (xRect j).emb (ix2 r l) = ix2 r (⟨j * 128 + l.val, by omega⟩ : Fin 512) := by
    funext a
    apply Fin.ext
    match a with
    | ⟨0, _⟩ => show 0 + 1 * r.val = r.val; omega
    | ⟨1, _⟩ => show j % 4 * 128 + 1 * l.val = j * 128 + l.val; omega
  refine (congrArg (chX m c t) e).trans ((chX_apply m c t r _).trans ?_)
  exact congrArg (KX m c r) (Fin.ext (by show 512 * t.val + (j * 128 + l.val) = k.val; omega))

/-- Element `(a, b)` of weight block `p` at point `t`. -/
theorem bW_apply (t : Fin cfg0.N) (p : ℕ) (hp : p < 128) (a b : Fin 128) (k : Fin 14336) (n : Fin 4096)
    (hk : k.val = 512 * t.val + p % 4 * 128 + a.val) (hn : n.val = p / 4 * 128 + b.val) :
    bW (chW m c t) p (ix2 a b) = KW m c k n := by
  have e : (wRect p).emb (ix2 a b) = ix2 (⟨p % 4 * 128 + a.val, by omega⟩ : Fin 512) n := by
    funext x
    apply Fin.ext
    match x with
    | ⟨0, _⟩ => show p % 4 * 128 + 1 * a.val = p % 4 * 128 + a.val; omega
    | ⟨1, _⟩ => show p / 4 % 32 * 128 + 1 * b.val = n.val; omega
  refine (congrArg (chW m c t) e).trans ((chW_apply m c t _ n).trans ?_)
  exact congrArg (fun k => KW m c k n) (Fin.ext (by show 512 * t.val + (p % 4 * 128 + a.val) = k.val; omega))

/-- The greatest magnitudes of the blocks. -/
theorem xMax_eq (t : Fin cfg0.N) (j : ℕ) (hj : j < 4) (r : Fin 96) (b : Fin 112) (hb : b.val = 4 * t.val + j) :
    xMax (bX (chX m c t) j) r = amx (KX m c) r b := by
  unfold xMax amx
  exact Finset.sup_congr rfl fun l _ => congrArg mag (bX_apply m c t j hj r l _ (by show b.val * 128 + l.val = _; omega))

theorem wMaxBlk_eq (t : Fin cfg0.N) (p : ℕ) (hp : p < 128) (kb : Fin 112) (nb : Fin 32)
    (hk : kb.val = 4 * t.val + p % 4) (hn : nb.val = p / 4) : wMax (bW (chW m c t) p) = amw (KW m c) kb nb := by
  unfold wMax amw
  exact Finset.sup_congr rfl fun q _ => congrArg mag (bW_apply m c t p hp q.1 q.2 _ _
    (by show kb.val * 128 + q.1.val = _; omega) (by show nb.val * 128 + q.2.val = _; omega))

section
variable (hX : ∀ r k, Num (KX m c r k)) (hW : ∀ k n, Num (KW m c k n))
include hX
theorem numX (t : Fin cfg0.N) (j : ℕ) (hj : j < 4) (r : Fin 96) (l : Fin 128) : Num (bX (chX m c t) j (ix2 r l)) := by
  have := lt28 t
  rw [bX_apply m c t j hj r l ⟨512 * t.val + j * 128 + l.val, by omega⟩ rfl]
  exact hX _ _

theorem canonXC (t : Fin cfg0.N) (r : Fin 96) (q : Fin 512) (k : Fin 14336) (hk : k.val = 512 * t.val + q.val) :
    View.canon (xcP (bX (chX m c t)) 4) (ix2 r q) = XC (KX m c) r k := by
  have hq : q.val / 128 < 4 := by omega
  refine (xP_apply (fun j => xCode (bX (chX m c t) j)) r q).trans ?_
  rw [xCode_eq _ (numX m c hX t _ hq), xMax_eq m c t _ hq r (kblk k) (by show k.val / 128 = _; omega),
    bX_apply m c t _ hq r _ k (by show k.val = _ + q.val % 128; omega)]
  rfl

theorem bXd_eq (t : Fin cfg0.N) (r : Fin 96) (q : Fin 512) (k : Fin 14336) (hk : k.val = 512 * t.val + q.val) :
    bXd (chX m c t) (ix2 r q) = XC (KX m c) r k * XS (KX m c) r (kblk k) := by
  have hq : q.val / 128 < 4 := by omega
  refine (xP_apply (fun j => xDeq (bX (chX m c t) j)) r q).trans ?_
  rw [xDeq_eq _ (numX m c hX t _ hq), xMax_eq m c t _ hq r (kblk k) (by show k.val / 128 = _; omega),
    bX_apply m c t _ hq r _ k (by show k.val = _ + q.val % 128; omega)]
  rfl

omit hX
include hW
theorem numW (t : Fin cfg0.N) (p : ℕ) (hp : p < 128) (a b : Fin 128) : Num (bW (chW m c t) p (ix2 a b)) := by
  have := lt28 t
  rw [bW_apply m c t p hp a b ⟨512 * t.val + p % 4 * 128 + a.val, by omega⟩ ⟨p / 4 * 128 + b.val, by omega⟩ rfl rfl]
  exact hW _ _

theorem canonWC (t : Fin cfg0.N) (i : Fin 512) (n : Fin 4096) (k : Fin 14336) (hk : k.val = 512 * t.val + i.val) :
    View.canon (wcP (bW (chW m c t)) 128) (ix2 i n) = WC (KW m c) k n := by
  have hp : n.val / 128 * 4 + i.val / 128 < 128 := by omega
  rw [wcP_apply, wCode_eq _ (numW m c hW t _ hp), wMaxBlk_eq m c t _ hp (kblk k) (nblk n)
    (by show k.val / 128 = _; omega) (by show n.val / 128 = _; omega),
    bW_apply m c t _ hp _ _ k n (by show k.val = _ + i.val % 128; omega) (by show n.val = _ + n.val % 128; omega)]
  rfl

theorem wDeqBlk_eq (t : Fin cfg0.N) (i : Fin 512) (n : Fin 4096) (k : Fin 14336) (hk : k.val = 512 * t.val + i.val) :
    wDeq (bW (chW m c t) (n.val / 128 * 4 + i.val / 128)) (ix2 (lo128 i) (lo128 n))
      = WC (KW m c) k n * WS (KW m c) (kblk k) (nblk n) := by
  have hp : n.val / 128 * 4 + i.val / 128 < 128 := by omega
  rw [wDeq_eq _ (numW m c hW t _ hp), wMaxBlk_eq m c t _ hp (kblk k) (nblk n)
    (by show k.val / 128 = _; omega) (by show n.val / 128 = _; omega),
    bW_apply m c t _ hp _ _ k n (by show k.val = _ + i.val % 128; omega) (by show n.val = _ + n.val % 128; omega)]
  rfl

theorem wsBlk_eq (t : Fin cfg0.N) (z : Fin 1) (r : Fin 4) (nb : Fin 32) (kb : Fin 112) (hk : kb.val = 4 * t.val + r.val) :
    k0_pay1 (wsN (bW (chW m c t)) 128) (ix3 z r nb) = WS (KW m c) kb nb := by
  have hp : nb.val * 4 + r.val < 128 := by omega
  have e : k0_pay1 (wsN (bW (chW m c t)) 128) (ix3 z r nb) = wsN (bW (chW m c t)) 128 (ix2 r nb) := by
    pointwise [k0_pay1]
  rw [e, wsN_apply _ 128 le_rfl r nb hp, wScale_eq _ (numW m c hW t _ hp), wMaxBlk_eq m c t _ hp kb nb (by omega) (by omega)]
  rfl
end

/-! ## The sweep -/

/-- What the sweep leaves at point `n` is one step over something. -/
theorem swept (n : ℕ) (h : 0 + n < cfg0.N) : ∃ acc,
    Pipeline.accAt (fun n h => stAt0 m c n h junk0) (stAt0 m c) 0 n h = stAt0 m c (⟨0 + n, h⟩ : Fin cfg0.N).val h acc := by
  cases n with
  | zero => exact ⟨_, rfl⟩
  | succ n => exact ⟨_, rfl⟩

/-- The partial product of chunk `s`. -/
def prt (r : Fin 96) (n : Fin 4096) (s : ℕ) : EReal :=
  if h : s < cfg0.N then part (bW (chW m c ⟨s, h⟩)) (bXd (chX m c ⟨s, h⟩)) r n else 0

theorem prt_of (r : Fin 96) (n : Fin 4096) (t : Fin cfg0.N) :
    part (bW (chW m c t)) (bXd (chX m c t)) r n = prt m c r n t.val := by
  unfold prt; rw [dif_pos t.isLt]

/-- The accumulator after point `s` holds the partial products of the chunks up to it. -/
theorem sweep_acc (r : Fin 96) (n : Fin 4096) (s : ℕ) (h : 0 + s < cfg0.N) :
    (Pipeline.accAt (fun n h => stAt0 m c n h junk0) (stAt0 m c) 0 s h).2.2.2.2.2 (ix2 r n)
      = ∑ s' ∈ Finset.range (s + 1), prt m c r n s' := by
  induction s with
  | zero =>
    refine (st_accA m c ⟨0, h⟩ junk0 rfl r n).trans ?_
    rw [prt_of]; simp
  | succ s ih =>
    have hs : 0 + (s + 1) < 28 := lt_of_lt_of_eq h N_0
    refine (st_accBC m c ⟨0 + (s + 1), h⟩ _ (by show ¬(0 + (s + 1)) % 28 = 0; omega) r n).trans ?_
    rw [ih, prt_of, Finset.sum_range_succ _ (s + 1)]
    simp only [Nat.zero_add]

section
variable (hX : ∀ r k, Num (KX m c r k)) (hW : ∀ k n, Num (KW m c k n))
include hX

/-- The activation scales after point `s`: those of the chunks up to it, and zeros. -/
theorem sweep_xs (r : Fin 96) (b : Fin 112) (s : ℕ) (h : 0 + s < cfg0.N) :
    (Pipeline.accAt (fun n h => stAt0 m c n h junk0) (stAt0 m c) 0 s h).2.2.1 (ix2 r b)
      = if b.val < 4 * (s + 1) then XS (KX m c) r b else 0 := by
  induction s with
  | zero =>
    refine (congrFun (st_4A m c ⟨0, h⟩ junk0 rfl) _).trans ?_
    rw [xsN_apply 0 (by omega) _ _ 4 le_rfl r b]
    by_cases hb : b.val < 4
    · rw [if_pos ⟨by omega, by omega⟩, if_pos (by omega), xScale_eq _ (numX m c hX _ _ (by omega)),
        xMax_eq m c ⟨0, h⟩ _ (by omega) r b (by show b.val = 4 * 0 + _; omega)]
      rfl
    · rw [if_neg (by omega), if_neg (by omega)]
      pointwise [k0_pay4]
  | succ s ih =>
    have hs : 0 + (s + 1) < 28 := lt_of_lt_of_eq h N_0
    refine (congrFun (st_4BC m c ⟨0 + (s + 1), h⟩ _ (by show ¬(0 + (s + 1)) % 28 = 0; omega)) _).trans ?_
    rw [xsN_apply (0 + (s + 1)) hs _ _ 4 le_rfl r b, ih]
    by_cases hb : 4 * (s + 1) ≤ b.val ∧ b.val < 4 * (s + 1) + 4
    · rw [if_pos (by omega), if_pos (by omega), xScale_eq _ (numX m c hX _ _ (by omega)),
        xMax_eq m c ⟨0 + (s + 1), h⟩ _ (by omega) r b (by show b.val = 4 * (0 + (s + 1)) + _; omega)]
      rfl
    · rw [if_neg (by omega)]
      by_cases hb' : b.val < 4 * (s + 1)
      · rw [if_pos hb', if_pos (by omega)]
      · rw [if_neg hb', if_neg (by omega)]

include hW
/-- The partial product of a chunk, over the operands. -/
theorem prt_eq (r : Fin 96) (n : Fin 4096) (s : Fin 28) : prt m c r n s.val
    = ∑ q : Fin 512, (fun k : Fin 14336 => (XC (KX m c) r k * XS (KX m c) r (kblk k)) * (WC (KW m c) k n * WS (KW m c) (kblk k) (nblk n)))
        ⟨512 * s.val + q.val, by omega⟩ := by
  have hs : s.val < cfg0.N := lt_of_lt_of_eq s.isLt N_0.symm
  unfold prt
  rw [dif_pos hs]
  unfold part
  refine Finset.sum_congr rfl fun q _ => ?_
  rw [bXd_eq m c hX ⟨s.val, hs⟩ r q ⟨512 * s.val + q.val, by omega⟩ rfl,
    wDeqBlk_eq m c hW ⟨s.val, hs⟩ q n ⟨512 * s.val + q.val, by omega⟩ rfl]
end

/-- A sum over 28 chunks of 512 is the sum over all. -/
theorem sum_chunks (f : Fin 14336 → EReal) :
    ∑ s : Fin 28, ∑ q : Fin 512, f ⟨512 * s.val + q.val, by omega⟩ = ∑ k : Fin 14336, f k := by
  rw [← Fintype.sum_prod_type' (f := fun (s : Fin 28) (q : Fin 512) => f ⟨512 * s.val + q.val, by omega⟩)]
  refine Fintype.sum_equiv (finProdFinEquiv (m := 28) (n := 512)) _ _ fun p => congrArg f (Fin.ext ?_)
  show 512 * p.1.val + p.2.val = p.2.val + 512 * p.1.val
  omega

/-! ## The results -/

section
variable (hX : ∀ r k, Num (KX m c r k)) (hW : ∀ k n, Num (KW m c k n))
include hX hW
/-- The product. -/
theorem G2_eq (r : Fin 96) (n : Fin 4096) : G2 m c (ix2 r n) = YY (KX m c) (KW m c) r n := by
  rw [G2_last]
  refine (st_2 m c ⟨0 + 27, lt_of_lt_of_eq (by decide) N_0.symm⟩ _ rfl r n).trans ?_
  rw [sweep_acc, prt_of]
  refine (Finset.sum_range_succ (prt m c r n) 27).symm.trans ?_
  rw [Finset.sum_range]
  unfold YY
  rw [← sum_chunks]
  exact Finset.sum_congr rfl fun s _ => prt_eq m c hX hW r n s
omit hW
/-- The activation codes. -/
theorem G3_eq (r : Fin 96) (k : Fin 14336) : G3 m c (ix2 r k) = XC (KX m c) r k := by
  have hp : pt3Of (ix2 r k) = k.val / 512 := by
    show 28 * (r.val / 96 - 0) + 1 * (k.val / 512 - 0) = _; omega
  have hlt : pt3Of (ix2 r k) < cfg0.N := by
    rw [hp]; exact lt_of_lt_of_eq (by omega) N_0.symm
  unfold G3
  rw [dif_pos hlt]
  obtain ⟨acc, e⟩ := swept m c (pt3Of (ix2 r k)) (by omega)
  rw [e, st_3]
  have hl : loc3Of (ix2 r k) = ix2 r (⟨k.val % 512, by omega⟩ : Fin 512) := by
    funext a; apply Fin.ext
    match a with
    | ⟨0, _⟩ => show r.val % 96 = r.val; omega
    | ⟨1, _⟩ => rfl
  rw [hl]
  exact canonXC m c hX _ r _ k (by show k.val = 512 * (0 + pt3Of (ix2 r k)) + k.val % 512; rw [hp]; omega)
/-- The activation scales. -/
theorem G4_eq (r : Fin 96) (b : Fin 112) : G4 m c (ix2 r b) = XS (KX m c) r b := by
  rw [G4_last, sweep_xs m c hX, if_pos (by omega)]
omit hX
include hW
/-- The weight codes. -/
theorem G5_eq (k : Fin 14336) (n : Fin 4096) : G5 m c (ix2 k n) = WC (KW m c) k n := by
  have hp : pt5Of (ix2 k n) = k.val / 512 := by
    show 1 * (k.val / 512 - 0) + 1 * (n.val / 4096 - 0) = _; omega
  have hlt : pt5Of (ix2 k n) < cfg0.N := by
    rw [hp]; exact lt_of_lt_of_eq (by omega) N_0.symm
  unfold G5
  rw [dif_pos hlt]
  obtain ⟨acc, e⟩ := swept m c (pt5Of (ix2 k n)) (by omega)
  rw [e, st_5]
  have hl : loc5Of (ix2 k n) = ix2 (⟨k.val % 512, by omega⟩ : Fin 512) n := by
    funext a; apply Fin.ext
    match a with
    | ⟨0, _⟩ => rfl
    | ⟨1, _⟩ => show n.val % 4096 = n.val; omega
  rw [hl]
  exact canonWC m c hW _ _ n k (by show k.val = 512 * (0 + pt5Of (ix2 k n)) + k.val % 512; rw [hp]; omega)
/-- The weight scales. -/
theorem G6_eq (t : Fin 28) (r : Fin 4) (nb : Fin 32) :
    G6 m c (ix3 t r nb) = WS (KW m c) ⟨4 * t.val + r.val, by omega⟩ nb := by
  have hp : pt6Of (ix3 t r nb) = t.val := by
    show 1 * (t.val / 1 - 0) + 1 * (r.val / 4 - 0) + 1 * (nb.val / 32 - 0) = _; omega
  have hlt : pt6Of (ix3 t r nb) < cfg0.N := by
    rw [hp]; exact lt_of_lt_of_eq (by omega) N_0.symm
  unfold G6
  rw [dif_pos hlt]
  obtain ⟨acc, e⟩ := swept m c (pt6Of (ix3 t r nb)) (by omega)
  rw [e, st_6]
  have hl : loc6Of (ix3 t r nb) = ix3 (0 : Fin 1) r nb := by
    funext a; apply Fin.ext
    match a with
    | ⟨0, _⟩ => show t.val % 1 = 0; omega
    | ⟨1, _⟩ => show r.val % 4 = r.val; omega
    | ⟨2, _⟩ => show nb.val % 32 = nb.val; omega
  rw [hl]
  exact wsBlk_eq m c hW _ _ r nb _ (by show 4 * t.val + r.val = 4 * (0 + pt6Of (ix3 t r nb)) + r.val; rw [hp]; omega)
end

end Cert.Quant
-- ==== Proof.RefRun.lean ====
/- The reference's run: every result array ends holding what the body stores over the two whole operands. -/
module

public import proofs.«01_k».proof.Proof.Gen.ReferenceIdeal.Frame
public import Idealize.ShloMosaic.Lib.Pipeline.Value

@[expose] public section

set_option maxRecDepth 16384

noncomputable section

namespace Cert.Quant.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- The operands as the reference finds them. -/
abbrev inX : Vec F S96x14336 .bf16 := V m c main_v0
abbrev inW : Vec F S14336x4096 .bf16 := V m c main_arg1

/-- At the one grid point the windows of the operands hold the whole operands. -/
theorem iblk0_eq : iblk m c 0 t0_0 = inX m c := by
  have hz : (fun a => win0_0.index t0_0 a * main_v0.ty.shape.size a) = fun _ => 0 := funext fun a => by fin_cases a <;> decide +kernel
  exact Memref.read_access_unit_zero (Elt F) main_v0 hz (fun a => by rw [congrFun hz a]; simp) (V m c main_v0)
theorem iblk1_eq : iblk m c 1 t0_0 = inW m c := by
  have hz : (fun a => win0_1.index t0_0 a * main_arg1.ty.shape.size a) = fun _ => 0 := funext fun a => by fin_cases a <;> decide +kernel
  exact Memref.read_access_unit_zero (Elt F) main_arg1 hz (fun a => by rw [congrFun hz a]; simp) (V m c main_arg1)

/-- The array of the product ends holding the body's stores. -/
theorem final2 : (dats m 0 c).arrAt 2 cfg0.N = out0_2 (inX m c) (inW m c) := by
  have hz : (fun a => win0_2.index t0_0 a * main_v1_0.ty.shape.size a) = fun _ => 0 := funext fun a => by fin_cases a <;> decide +kernel
  refine (dats m 0 c).arrAt_eq_of_cover 2 (out0_2 (inX m c) (inW m c)) (fun t _ => ?_) fun i => ⟨t0_0, flush0_2 t0_0, ?_⟩
  · obtain rfl : t = t0_0 := fin_N0 t
    show (cfg0.win 2).cut (grid0.coords t0_0) ((dats m 0 c).after 2 t0_0) = _
    rw [after0_2, iblk0_eq, iblk1_eq]
    exact (Memref.read_access_unit_zero (Elt F) main_v1_0 hz (fun a => by rw [congrFun hz a]; simp) (out0_2 (inX m c) (inW m c))).symm
  · show i ∈ ((View.whole main_v1_0).slice (win0_2.rect t0_0)).set
    rw [View.set_slice_whole, Rect.mem_set_unit]
    intro a
    refine ⟨?_, ?_⟩
    · show win0_2.index t0_0 a * main_v1_0.ty.shape.size a ≤ _
      rw [congrFun hz a]; exact Nat.zero_le _
    · show _ < win0_2.index t0_0 a * main_v1_0.ty.shape.size a + main_v1_0.ty.shape.size a
      rw [congrFun hz a, Nat.zero_add]; exact (i a).isLt

/-- The array of the activation codes ends holding the body's stores. -/
theorem final3 : (dats m 0 c).arrAt 3 cfg0.N = out0_3 (inX m c) (inW m c) := by
  have hz : (fun a => win0_3.index t0_0 a * main_v1_1.ty.shape.size a) = fun _ => 0 := funext fun a => by fin_cases a <;> decide +kernel
  refine (dats m 0 c).arrAt_eq_of_cover 3 (out0_3 (inX m c) (inW m c)) (fun t _ => ?_) fun i => ⟨t0_0, flush0_3 t0_0, ?_⟩
  · obtain rfl : t = t0_0 := fin_N0 t
    show (cfg0.win 3).cut (grid0.coords t0_0) ((dats m 0 c).after 3 t0_0) = _
    rw [after0_3, iblk0_eq, iblk1_eq]
    exact (Memref.read_access_unit_zero (Elt F) main_v1_1 hz (fun a => by rw [congrFun hz a]; simp) (out0_3 (inX m c) (inW m c))).symm
  · show i ∈ ((View.whole main_v1_1).slice (win0_3.rect t0_0)).set
    rw [View.set_slice_whole, Rect.mem_set_unit]
    intro a
    refine ⟨?_, ?_⟩
    · show win0_3.index t0_0 a * main_v1_1.ty.shape.size a ≤ _
      rw [congrFun hz a]; exact Nat.zero_le _
    · show _ < win0_3.index t0_0 a * main_v1_1.ty.shape.size a + main_v1_1.ty.shape.size a
      rw [congrFun hz a, Nat.zero_add]; exact (i a).isLt

/-- The array of the activation scales ends holding the body's stores. -/
theorem final4 : (dats m 0 c).arrAt 4 cfg0.N = out0_4 (inX m c) (inW m c) := by
  have hz : (fun a => win0_4.index t0_0 a * main_v1_2.ty.shape.size a) = fun _ => 0 := funext fun a => by fin_cases a <;> decide +kernel
  refine (dats m 0 c).arrAt_eq_of_cover 4 (out0_4 (inX m c) (inW m c)) (fun t _ => ?_) fun i => ⟨t0_0, flush0_4 t0_0, ?_⟩
  · obtain rfl : t = t0_0 := fin_N0 t
    show (cfg0.win 4).cut (grid0.coords t0_0) ((dats m 0 c).after 4 t0_0) = _
    rw [after0_4, iblk0_eq, iblk1_eq]
    exact (Memref.read_access_unit_zero (Elt F) main_v1_2 hz (fun a => by rw [congrFun hz a]; simp) (out0_4 (inX m c) (inW m c))).symm
  · show i ∈ ((View.whole main_v1_2).slice (win0_4.rect t0_0)).set
    rw [View.set_slice_whole, Rect.mem_set_unit]
    intro a
    refine ⟨?_, ?_⟩
    · show win0_4.index t0_0 a * main_v1_2.ty.shape.size a ≤ _
      rw [congrFun hz a]; exact Nat.zero_le _
    · show _ < win0_4.index t0_0 a * main_v1_2.ty.shape.size a + main_v1_2.ty.shape.size a
      rw [congrFun hz a, Nat.zero_add]; exact (i a).isLt

/-- The array of the weight codes ends holding the body's stores. -/
theorem final5 : (dats m 0 c).arrAt 5 cfg0.N = out0_5 (inX m c) (inW m c) := by
  have hz : (fun a => win0_5.index t0_0 a * main_v1_3.ty.shape.size a) = fun _ => 0 := funext fun a => by fin_cases a <;> decide +kernel
  refine (dats m 0 c).arrAt_eq_of_cover 5 (out0_5 (inX m c) (inW m c)) (fun t _ => ?_) fun i => ⟨t0_0, flush0_5 t0_0, ?_⟩
  · obtain rfl : t = t0_0 := fin_N0 t
    show (cfg0.win 5).cut (grid0.coords t0_0) ((dats m 0 c).after 5 t0_0) = _
    rw [after0_5, iblk0_eq, iblk1_eq]
    exact (Memref.read_access_unit_zero (Elt F) main_v1_3 hz (fun a => by rw [congrFun hz a]; simp) (out0_5 (inX m c) (inW m c))).symm
  · show i ∈ ((View.whole main_v1_3).slice (win0_5.rect t0_0)).set
    rw [View.set_slice_whole, Rect.mem_set_unit]
    intro a
    refine ⟨?_, ?_⟩
    · show win0_5.index t0_0 a * main_v1_3.ty.shape.size a ≤ _
      rw [congrFun hz a]; exact Nat.zero_le _
    · show _ < win0_5.index t0_0 a * main_v1_3.ty.shape.size a + main_v1_3.ty.shape.size a
      rw [congrFun hz a, Nat.zero_add]; exact (i a).isLt

/-- The array of the weight scales ends holding the body's stores. -/
theorem final6 : (dats m 0 c).arrAt 6 cfg0.N = out0_6 (inX m c) (inW m c) := by
  have hz : (fun a => win0_6.index t0_0 a * main_v1_4.ty.shape.size a) = fun _ => 0 := funext fun a => by fin_cases a <;> decide +kernel
  refine (dats m 0 c).arrAt_eq_of_cover 6 (out0_6 (inX m c) (inW m c)) (fun t _ => ?_) fun i => ⟨t0_0, flush0_6 t0_0, ?_⟩
  · obtain rfl : t = t0_0 := fin_N0 t
    show (cfg0.win 6).cut (grid0.coords t0_0) ((dats m 0 c).after 6 t0_0) = _
    rw [after0_6, iblk0_eq, iblk1_eq]
    exact (Memref.read_access_unit_zero (Elt F) main_v1_4 hz (fun a => by rw [congrFun hz a]; simp) (out0_6 (inX m c) (inW m c))).symm
  · show i ∈ ((View.whole main_v1_4).slice (win0_6.rect t0_0)).set
    rw [View.set_slice_whole, Rect.mem_set_unit]
    intro a
    refine ⟨?_, ?_⟩
    · show win0_6.index t0_0 a * main_v1_4.ty.shape.size a ≤ _
      rw [congrFun hz a]; exact Nat.zero_le _
    · show _ < win0_6.index t0_0 a * main_v1_4.ty.shape.size a + main_v1_4.ty.shape.size a
      rw [congrFun hz a, Nat.zero_add]; exact (i a).isLt

/-- The run: the five results, and the arguments unchanged. -/
theorem run : θ_run defs (onTc (τ := τ) (main (F := F))) ⟨m, fun _ => 0, ρ⟩ fun r => ∀ c : Dev nD,
      r.2.mem ((c : Thread nD τ).loc main_v1_0) = out0_2 (inX m c) (inW m c)
      ∧ r.2.mem ((c : Thread nD τ).loc main_v1_1) = out0_3 (inX m c) (inW m c)
      ∧ r.2.mem ((c : Thread nD τ).loc main_v1_2) = out0_4 (inX m c) (inW m c)
      ∧ r.2.mem ((c : Thread nD τ).loc main_v1_3) = out0_5 (inX m c) (inW m c)
      ∧ r.2.mem ((c : Thread nD τ).loc main_v1_4) = out0_6 (inX m c) (inW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
      ((h c).1 4).trans (final4 m c), ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.Quant.Ref
-- ==== Proof.RefValues.lean ====
/- The reference's results at an index, as the functions of the two operands. -/
module

public import proofs.«01_k».proof.Proof.Spec
public import proofs.«01_k».proof.Proof.RefRun

@[expose] public section

set_option maxRecDepth 16384

noncomputable section

namespace Cert.Quant.Ref

open Idealize.ShloMosaic Cert.ReferenceIdeal Cert.ReferenceIdeal.Gen

/-- The operands' elements. -/
def fx (x : Vec Ideal S96x14336 .bf16) : Acts := fun r k => x (ix2 r k)
def fw (w : Vec Ideal S14336x4096 .bf16) : Wts := fun k n => w (ix2 k n)

/-! ## The scale of a block -/

theorem words : ∀ k : Fin 253, IntOp.shli ArithUnit.vector (IntOp.addi (BitVec.ofNat 32 k.val) 2#32) 23#32
    = BitVec.ofNat 32 (k.val + 2) <<< 23 := by decide +kernel

/-- The reference's search for the scale, read as the scale. -/
theorem search_eq (v : EReal) : Scalar.select
      (IntOp.ori (BitVec.ofBool (decide (v < Ideal.ofBits FTy.f32 8388608#32)))
        (BitVec.ofBool (decide (v = Ideal.ofBits FTy.f32 2139095040#32)))) (1 : EReal)
      (Finset.fold min (Ideal.ofBits FTy.f32 2139095040#32)
        (fun k : Fin 253 => if v < Ideal.ofBits FTy.f32 (IntOp.shli ArithUnit.vector (IntOp.addi (BitVec.ofNat 32 k.val) 2#32) 23#32)
          then Ideal.ofBits FTy.f32 (IntOp.shli ArithUnit.vector (IntOp.addi (BitVec.ofNat 32 k.val) 2#32) 23#32)
          else Ideal.ofBits FTy.f32 2139095040#32) Finset.univ) = scl v := by
  have h1 : Ideal.ofBits FTy.f32 8388608#32 = pw 1 := rfl
  have h2 : Ideal.ofBits FTy.f32 2139095040#32 = ⊤ := (show _ = pw 255 from rfl).trans pw_top
  rw [h1, h2]
  simp only [words]
  unfold scl
  by_cases a : v < pw 1
  · rw [if_pos (Or.inl a), decide_eq_true a]
    cases decide (v = ⊤) <;> rfl
  · by_cases b : v = ⊤
    · rw [if_pos (Or.inr b), decide_eq_true b]
      cases decide (v < pw 1) <;> rfl
    · rw [if_neg (by rintro (h | h) <;> contradiction), decide_eq_false a, decide_eq_false b]
      rfl

variable (x : Vec Ideal S96x14336 .bf16) (w : Vec Ideal S14336x4096 .bf16)

/-- The activations, a row of blocks at a time. -/
theorem x3_apply (r : Fin 96) (b : Fin 112) (l : Fin 128) : k0_pay5 x (ix3 r b l)
    = fx x r ⟨b.val * 128 + l.val, by omega⟩ := by
  pointwise [k0_pay5]
  rfl

/-- The greatest element along a row of a block. -/
theorem max_x (v : FVec Ideal S96x112x128 .f32) (r : Fin 96) (b : Fin 112) :
    multiReduction .maximumf [2] S96x112 v 0xFF800000#32 reduces_S96x112x128_S96x112 (.inl rfl) rfl (ix2 r b)
      = Finset.univ.sup fun l : Fin 128 => v (ix3 r b l) := by
  pointwise []
  rw [negInf32]
  rfl

/-- The scale the reference finds for greatest magnitudes `M` of the activations' blocks. -/
theorem search_x (v : FVec Ideal S96x112x128 .f32) (M : FVec Ideal S96x112 .f32) (hA : absf (k0_pay5 x) = v)
    (hM : multiReduction .maximumf [2] S96x112 v 0xFF800000#32 reduces_S96x112x128_S96x112 (.inl rfl) rfl = M)
    (r : Fin 96) (b : Fin 112) : k0_pay6 x (ix2 r b) = scl (M (ix2 r b) * rlim) := by
  unfold k0_pay6
  rw [hA, hM]
  clear hA hM
  pointwise []
  exact search_eq _

/-- The scales of the activations. -/
theorem xs_apply (r : Fin 96) (b : Fin 112) : k0_pay6 x (ix2 r b) = XS (fx x) r b := by
  rw [search_x x _ _ rfl rfl r b, max_x]
  unfold XS sc amx
  congr 2
  refine Finset.sup_congr rfl fun l _ => ?_
  exact congrArg mag (x3_apply x r b l)

/-- The weights, a block of blocks at a time. -/
theorem w4_apply (k : Fin 112) (i : Fin 128) (n : Fin 32) (j : Fin 128) : k0_pay8 w (ix4 k i n j)
    = fw w ⟨k.val * 128 + i.val, by omega⟩ ⟨n.val * 128 + j.val, by omega⟩ := by
  pointwise [k0_pay8]
  rfl

/-- The reference's greatest magnitude of a weight block: over all indices that agree with the block's numbers. -/
theorem red_apply (v : FVec Ideal S112x128x32x128 .bf16) (k : Fin 112) (n : Fin 32) :
    multiReduction .maximumf [1, 3] S112x32 v 0xFF80#16 reduces_S112x128x32x128_S112x32 (.inr rfl) rfl (ix2 k n)
      = Finset.univ.sup fun p : Fin 128 × Fin 128 => v (ix4 k p.1 n p.2) := by
  refine (multiReduction_maximumf_eq_fold _ _ _ _ _ _).trans ?_
  have e : (FloatOps.ofBits FTy.bf16 0xFF80#16 : Ideal .bf16) = (⊥ : EReal) := negInf16
  rw [e]
  show Finset.sup (Finset.univ.filter fun i => reduces_S112x128x32x128_S112x32.drop i = ix2 k n) v = _
  apply le_antisymm
  · refine Finset.sup_le fun i hi => ?_
    have hi := (Finset.mem_filter.mp hi).2
    have h0 : (i 0).val = k.val := (Shape.Reduces.drop_apply_val_of_eq reduces_S112x128x32x128_S112x32 i 0 0).symm.trans
      (congrArg (fun y : S112x32.Idx => (y 0).val) hi)
    have h2 : (i 2).val = n.val := (Shape.Reduces.drop_apply_val_of_eq reduces_S112x128x32x128_S112x32 i 1 2).symm.trans
      (congrArg (fun y : S112x32.Idx => (y 1).val) hi)
    refine le_trans (le_of_eq (congrArg v ?_)) (Finset.le_sup (f := fun p : Fin 128 × Fin 128 => v (ix4 k p.1 n p.2))
      (Finset.mem_univ ((i 1 : Fin 128), (i 3 : Fin 128))))
    funext a
    apply Fin.ext
    match a with
    | ⟨0, _⟩ => exact h0
    | ⟨1, _⟩ => rfl
    | ⟨2, _⟩ => exact h2
    | ⟨3, _⟩ => rfl
  · refine Finset.sup_le fun p _ => Finset.le_sup (f := v) (Finset.mem_filter.mpr ⟨Finset.mem_univ _, ?_⟩)
    funext a
    apply Fin.ext
    match a with
    | ⟨0, _⟩ => exact Shape.Reduces.drop_apply_val_of_eq reduces_S112x128x32x128_S112x32 _ 0 0
    | ⟨1, _⟩ => exact Shape.Reduces.drop_apply_val_of_eq reduces_S112x128x32x128_S112x32 _ 1 2

/-- The greatest magnitude of a weight block. -/
theorem amax_w (k : Fin 112) (n : Fin 32) :
    multiReduction .maximumf [1, 3] S112x32 (k0_pay9 w) 0xFF80#16 reduces_S112x128x32x128_S112x32 (.inr rfl) rfl (ix2 k n)
      = amw (fw w) k n := by
  refine (red_apply (k0_pay9 w) k n).trans ?_
  unfold amw
  refine Finset.sup_congr rfl fun p _ => ?_
  exact congrArg mag (w4_apply w k p.1 n p.2)

/-- The scale the reference finds for greatest magnitudes `M` of the weights' blocks. -/
theorem search_w (v : FVec Ideal S112x128x32x128 .bf16) (M : FVec Ideal S112x32 .bf16)
    (hM : multiReduction .maximumf [1, 3] S112x32 v 0xFF80#16 reduces_S112x128x32x128_S112x32 (.inr rfl) rfl = M)
    (k : Fin 112) (n : Fin 32) : k0_pay10 v (ix2 k n) = scl (M (ix2 k n) * rlim) := by
  unfold k0_pay10
  rw [hM]
  clear hM
  pointwise []
  exact search_eq _

/-- The scales of the weights. -/
theorem ws_apply (k : Fin 112) (n : Fin 32) : k0_pay10 (k0_pay9 w) (ix2 k n) = WS (fw w) k n := by
  rw [search_w _ _ rfl k n, amax_w]
  rfl

/-- A code of an activation from its block and its scale. -/
theorem xc_of (A : FVec Ideal S96x112x128 .f32) (D : FVec Ideal S96x112 .f32) (hA : k0_pay5 x = A) (hD : k0_pay6 x = D)
    (r : Fin 96) (k : Fin 14336) : k0_pay2 (k0_pay7 x) (ix2 r k)
      = min lim (max nlim (A (ix3 r (kblk k) ⟨k.val % 128, by omega⟩) * Ideal.div 1 (D (ix2 r (kblk k))))) := by
  unfold k0_pay7
  rw [hA, hD]
  clear hA hD
  pointwise [k0_pay2]
  rfl

/-- The codes of the activations. -/
theorem xc_apply (r : Fin 96) (k : Fin 14336) : k0_pay2 (k0_pay7 x) (ix2 r k) = XC (fx x) r k := by
  have hk : (⟨(kblk k).val * 128 + k.val % 128, by show k.val / 128 * 128 + k.val % 128 < 14336; omega⟩ : Fin 14336) = k :=
    Fin.ext (by show k.val / 128 * 128 + k.val % 128 = k.val; omega)
  rw [xc_of x _ _ rfl rfl r k, xs_apply, x3_apply, hk]
  rfl

/-- A code of a weight from its block and its scale. -/
theorem wc_of (u v : FVec Ideal S112x128x32x128 .bf16) (D : FVec Ideal S112x32 .f32) (hD : k0_pay10 v = D)
    (k : Fin 14336) (n : Fin 4096) : k0_pay3 (k0_pay11 u v) (ix2 k n)
      = min lim (max nlim (u (ix4 (kblk k) ⟨k.val % 128, by omega⟩ (nblk n) ⟨n.val % 128, by omega⟩)
          * Ideal.div 1 (D (ix2 (kblk k) (nblk n))))) := by
  unfold k0_pay11
  rw [hD]
  clear hD
  pointwise [k0_pay3]
  rfl

/-- The codes of the weights. -/
theorem wc_apply (k : Fin 14336) (n : Fin 4096) :
    k0_pay3 (k0_pay11 (k0_pay8 w) (k0_pay9 w)) (ix2 k n) = WC (fw w) k n := by
  have hk : (⟨(kblk k).val * 128 + k.val % 128, by show k.val / 128 * 128 + k.val % 128 < 14336; omega⟩ : Fin 14336) = k :=
    Fin.ext (by show k.val / 128 * 128 + k.val % 128 = k.val; omega)
  have hn : (⟨(nblk n).val * 128 + n.val % 128, by show n.val / 128 * 128 + n.val % 128 < 4096; omega⟩ : Fin 4096) = n :=
    Fin.ext (by show n.val / 128 * 128 + n.val % 128 = n.val; omega)
  rw [wc_of _ _ _ rfl k n, ws_apply, w4_apply, hk, hn]
  rfl

/-- The weight scales, four rows of blocks to a chunk. -/
theorem ws4_apply (v : FVec Ideal S112x32 .f32) (t : Fin 28) (r : Fin 4) (n : Fin 32) :
    k0_pay4 v (ix3 t r n) = v (ix2 ⟨4 * t.val + r.val, by omega⟩ n) := by
  unfold k0_pay4
  refine shapeCast_apply _ _ _ _ ?_
  rw [Shape.rowMajor_val_two, Shape.rowMajor_val_three]
  show (4 * t.val + r.val) * 32 + n.val = (t.val * 4 + r.val) * 32 + n.val
  omega

/-- The dequantised activations. -/
theorem xd_apply (r : Fin 96) (b : Fin 112) (l : Fin 128) (k : Fin 14336) (hk : k.val = b.val * 128 + l.val) :
    k0_pay12 (k0_pay6 x) (k0_pay7 x) (ix3 r b l) = XC (fx x) r k * XS (fx x) r (kblk k) := by
  have hb : kblk k = b := Fin.ext (by show k.val / 128 = b.val; omega)
  have e : k0_pay7 x (ix3 r b l) = k0_pay2 (k0_pay7 x) (ix2 r k) := by
    unfold k0_pay2
    refine (shapeCast_apply _ _ _ _ ?_).symm
    rw [Shape.rowMajor_val_two, Shape.rowMajor_val_three]
    show (r.val * 112 + b.val) * 128 + l.val = r.val * 14336 + k.val
    omega
  rw [hb, ← xc_apply, ← xs_apply, ← e]
  pointwise [k0_pay12]

/-- A dequantised weight from its code and its scale. -/
theorem wd_of (u v : FVec Ideal S112x128x32x128 .bf16) (C : FVec Ideal S112x128x32x128 .fp8e4m3) (D : FVec Ideal S112x32 .f32)
    (hC : k0_pay11 u v = C) (hD : k0_pay10 v = D) (kb : Fin 112) (i : Fin 128) (nb : Fin 32) (j : Fin 128) :
    k0_pay13 u v (ix4 kb i nb j) = C (ix4 kb i nb j) * D (ix2 kb nb) := by
  unfold k0_pay13
  rw [hC, hD]
  clear hC hD
  pointwise []

/-- The dequantised weights. -/
theorem wd_apply (kb : Fin 112) (i : Fin 128) (nb : Fin 32) (j : Fin 128) (k : Fin 14336) (n : Fin 4096)
    (hk : k.val = kb.val * 128 + i.val) (hn : n.val = nb.val * 128 + j.val) :
    k0_pay13 (k0_pay8 w) (k0_pay9 w) (ix4 kb i nb j) = WC (fw w) k n * WS (fw w) (kblk k) (nblk n) := by
  have hb : kblk k = kb := Fin.ext (by show k.val / 128 = kb.val; omega)
  have hb' : nblk n = nb := Fin.ext (by show n.val / 128 = nb.val; omega)
  have e : k0_pay11 (k0_pay8 w) (k0_pay9 w) (ix4 kb i nb j) = k0_pay3 (k0_pay11 (k0_pay8 w) (k0_pay9 w)) (ix2 k n) := by
    unfold k0_pay3
    refine (shapeCast_apply _ _ _ _ ?_).symm
    rw [Shape.rowMajor_val_two, Shape.rowMajor_val_four]
    show ((kb.val * 128 + i.val) * 32 + nb.val) * 128 + j.val = k.val * 4096 + n.val
    omega
  rw [hb, hb', ← wc_apply, ← ws_apply, ← e]
  exact wd_of _ _ _ _ rfl rfl kb i nb j

/-- The product. -/
theorem y_apply (r : Fin 96) (n : Fin 4096) :
    k0_pay1 (k0_pay12 (k0_pay6 x) (k0_pay7 x)) (k0_pay13 (k0_pay8 w) (k0_pay9 w)) (ix2 r n) = YY (fx x) (fw w) r n := by
  have gen (u : FVec Ideal S96x112x128 .bf16) (v : FVec Ideal S112x128x32x128 .bf16) : k0_pay1 u v (ix2 r n)
      = ∑ k : Fin 14336, u (ix3 r (kblk k) ⟨k.val % 128, by omega⟩) * v (ix4 (kblk k) ⟨k.val % 128, by omega⟩ (nblk n) ⟨n.val % 128, by omega⟩) := by
    pointwise [k0_pay1]
    rfl
  rw [gen]
  unfold YY
  refine Finset.sum_congr rfl fun k _ => ?_
  rw [xd_apply x r (kblk k) _ k (by show k.val = k.val / 128 * 128 + k.val % 128; omega),
    wd_apply w (kblk k) _ (nblk n) _ k n (by show k.val = k.val / 128 * 128 + k.val % 128; omega)
      (by show n.val = n.val / 128 * 128 + n.val % 128; omega)]

/-! ## The results -/

theorem ldX : View.ld x r0_0 = x :=
  View.ld_unit_zero (S := S96x14336) (off := ![0, 0]) (by funext a; fin_cases a <;> rfl) _ _
theorem ldW : View.ld w r0_1 = w :=
  View.ld_unit_zero (S := S14336x4096) (off := ![0, 0]) (by funext a; fin_cases a <;> rfl) _ _

theorem out2_apply (r : Fin 96) (n : Fin 4096) : out0_2 x w (ix2 r n) = YY (fx x) (fw w) r n := by
  unfold_out out0_2
  refine (congrFun (View.canon_unit_zero (S := S96x4096) (off := ![0, 0]) (by funext a; fin_cases a <;> rfl) _ _) _).trans ?_
  rw [ldX, ldW]
  exact y_apply x w r n
theorem out3_apply (r : Fin 96) (k : Fin 14336) : out0_3 x w (ix2 r k) = XC (fx x) r k := by
  unfold_out out0_3
  refine (congrFun (View.canon_unit_zero (S := S96x14336) (off := ![0, 0]) (by funext a; fin_cases a <;> rfl) _ _) _).trans ?_
  rw [ldX]
  exact xc_apply x r k
theorem out4_apply (r : Fin 96) (b : Fin 112) : out0_4 x w (ix2 r b) = XS (fx x) r b := by
  unfold_out out0_4
  refine (congrFun (View.canon_unit_zero (S := S96x112) (off := ![0, 0]) (by funext a; fin_cases a <;> rfl) _ _) _).trans ?_
  rw [ldX]
  exact xs_apply x r b
theorem out5_apply (k : Fin 14336) (n : Fin 4096) : out0_5 x w (ix2 k n) = WC (fw w) k n := by
  unfold_out out0_5
  refine (congrFun (View.canon_unit_zero (S := S14336x4096) (off := ![0, 0]) (by funext a; fin_cases a <;> rfl) _ _) _).trans ?_
  rw [ldW]
  exact wc_apply w k n
theorem out6_apply (t : Fin 28) (r : Fin 4) (n : Fin 32) :
    out0_6 x w (ix3 t r n) = WS (fw w) ⟨4 * t.val + r.val, by omega⟩ n := by
  unfold_out out0_6
  refine (congrFun (View.canon_unit_zero (S := S28x4x32) (off := ![0, 0, 0]) (by funext a; fin_cases a <;> rfl) _ _) _).trans ?_
  rw [ldW]
  exact (ws4_apply _ t r n).trans (ws_apply w _ n)

end Cert.Quant.Ref
-- ==== Proof.Agree.lean ====
/- The two programs read the same operands, and the precondition says their elements are numbers. -/
module

public import proofs.«01_k».proof.Defs
public import proofs.«01_k».proof.Proof.Gen.Pre_no_nan
public import proofs.«01_k».proof.Proof.Sweep
public import proofs.«01_k».proof.Proof.RefValues
public import Idealize.ShloMosaic.Lib.Claim

@[expose] public section

set_option maxRecDepth 16384

noncomputable section

namespace Cert.Quant

open Idealize.ShloMosaic Idealize.ShloMosaic.TcCoe

section kernel
open Cert.KernelIdeal Cert.KernelIdeal.Gen
variable (m : (ℓ : Loc nD τ sig) → Buf (Elt Ideal) ℓ) (c : Dev nD)

/-- The launched arrays, as the functions the results are written over. -/
def argX : Acts := fun r k => (m ((c : Thread nD τ).loc main_arg0) : Vec Ideal S96x1x14336 .bf16) (ix3 r 0 k)
def argW : Wts := fun k n => (m ((c : Thread nD τ).loc main_arg1) : Vec Ideal S14336x4096 .bf16) (ix2 k n)

theorem KX_eq : KX m c = argX m c := by
  funext r k
  unfold KX argX
  entry_read
  refine shapeCast_apply _ _ _ _ ?_
  show (S96x1x14336.rowMajor (ix3 r 0 k)).val = (S96x14336.rowMajor (ix2 r k)).val
  rw [Shape.rowMajor_val_two, Shape.rowMajor_val_three]
  show (r.val * 1 + 0) * 14336 + k.val = r.val * 14336 + k.val
  omega
theorem KW_eq : KW m c = argW m c := by
  funext k n
  unfold KW argW
  rw [V_main_arg1 m c]

/-- A bit is the comparison it came from. -/
theorem num_of_bit (x : EReal) (h : IntOp.ori (BitVec.ofBool (decide (mag x ≤ Ideal.ofBits .f32 0x7F7F0000#32)))
    (BitVec.ofBool (decide (mag x = Ideal.ofBits .f32 0x7F800000#32))) = 1#1) : Num x := by
  have h2 : Ideal.ofBits FTy.f32 0x7F800000#32 = ⊤ := (show _ = pw 255 from rfl).trans pw_top
  rw [h2] at h
  by_cases a : mag x ≤ Ideal.ofBits .f32 0x7F7F0000#32
  · exact Or.inl a
  · by_cases b : mag x = ⊤
    · exact Or.inr b
    · rw [decide_eq_false a, decide_eq_false b] at h
      exact absurd h (by decide)

theorem num_args (h : Pre_KernelIdeal_no_nan (hPre_no_nan := Cert.Pre_no_nan.Gen.facts) m) :
    (∀ r k, Num (argX m c r k)) ∧ ∀ k n, Num (argW m c k n) := by
  refine ⟨fun r k => num_of_bit _ ?_, fun k n => num_of_bit _ ?_⟩
  · exact congrFun (h c).1 (ix3 r 0 k)
  · exact congrFun (h c).2 (ix2 k n)
end kernel

section reference
open Cert.ReferenceIdeal Cert.ReferenceIdeal.Gen
variable (m : (ℓ : Loc nD τ sig) → Buf (Elt Ideal) ℓ) (c : Dev nD)

theorem RX_eq : Ref.fx (Ref.inX m c) = fun r k => (m ((c : Thread nD τ).loc main_arg0) : Vec Ideal S96x1x14336 .bf16) (ix3 r 0 k) := by
  funext r k
  unfold Ref.fx Ref.inX
  entry_read
  refine shapeCast_apply _ _ _ _ ?_
  show (S96x1x14336.rowMajor (ix3 r 0 k)).val = (S96x14336.rowMajor (ix2 r k)).val
  rw [Shape.rowMajor_val_two, Shape.rowMajor_val_three]
  show (r.val * 1 + 0) * 14336 + k.val = r.val * 14336 + k.val
  omega
theorem RW_eq : Ref.fw (Ref.inW m c) = fun k n => (m ((c : Thread nD τ).loc main_arg1) : Vec Ideal S14336x4096 .bf16) (ix2 k n) := by
  funext k n
  unfold Ref.fw Ref.inW
  rw [V_main_arg1 m c]
end reference

end Cert.Quant
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_no_nan
public import proofs.«01_k».proof.Proof.Agree
public import Idealize.ShloMosaic.Adequacy
public import Idealize.ShloMosaic.Init

@[expose] public section

noncomputable section

namespace Cert.Proof

open Idealize.ShloMosaic Idealize.SL.Sem Cert.Kernel

/-- An array is known from its elements. -/
theorem ext2 {α : Type} {a b : ℕ} {f g : (⟨2, ![a, b]⟩ : Shape).Idx → α} (h : ∀ i j, f (ix2 i j) = g (ix2 i j)) : f = g := by
  funext y
  have e : y = ix2 (y 0) (y 1) := by
    funext d
    match d with
    | ⟨0, _⟩ => rfl
    | ⟨1, _⟩ => rfl
  rw [e]
  exact h _ _
theorem ext3 {α : Type} {a b c : ℕ} {f g : (⟨3, ![a, b, c]⟩ : Shape).Idx → α}
    (h : ∀ i j k, f (ix3 i j k) = g (ix3 i j k)) : f = g := by
  funext y
  have e : y = ix3 (y 0) (y 1) (y 2) := by
    funext d
    match d with
    | ⟨0, _⟩ => rfl
    | ⟨1, _⟩ => rfl
    | ⟨2, _⟩ => rfl
  rw [e]
  exact h _ _ _

/-- The kernel's five results and the reference's are equal over equal operands. -/
theorem algebraic : Cert.algebraic_KernelIdeal_ReferenceIdeal_pre_no_nan (hKernelIdeal := Cert.KernelIdeal.Gen.facts)
    (hReferenceIdeal := Cert.ReferenceIdeal.Gen.facts) (hPre_no_nan := Cert.Pre_no_nan.Gen.facts) := by
  intro m g m' g' hP hA
  have hX (c : Dev Cert.KernelIdeal.nD) : Cert.Quant.Ref.fx (Cert.Quant.Ref.inX m' c) = Cert.Quant.KX m c := by
    rw [Cert.Quant.KX_eq, Cert.Quant.RX_eq]
    exact congrArg (fun v : Vec Ideal Cert.KernelIdeal.S96x1x14336 .bf16 => fun r k => v (ix3 r 0 k)) (hA c).1
  have hW (c : Dev Cert.KernelIdeal.nD) : Cert.Quant.Ref.fw (Cert.Quant.Ref.inW m' c) = Cert.Quant.KW m c := by
    rw [Cert.Quant.KW_eq, Cert.Quant.RW_eq]
    exact congrArg (fun v : Vec Ideal Cert.KernelIdeal.S14336x4096 .bf16 => fun k n => v (ix2 k n)) (hA c).2
  have nX (c : Dev Cert.KernelIdeal.nD) (r k) : Cert.Quant.Num (Cert.Quant.KX m c r k) := by
    rw [Cert.Quant.KX_eq]; exact (Cert.Quant.num_args m c hP).1 r k
  have nW (c : Dev Cert.KernelIdeal.nD) (k n) : Cert.Quant.Num (Cert.Quant.KW m c k n) := by
    rw [Cert.Quant.KW_eq]; exact (Cert.Quant.num_args m c hP).2 k n
  refine ⟨Cert.KernelIdeal.Value.G2 m, Cert.KernelIdeal.Value.G3 m, Cert.KernelIdeal.Value.G4 m, Cert.KernelIdeal.Value.G5 m,
    Cert.KernelIdeal.Value.G6 m, Cert.KernelIdeal.Value.run m g, ?_⟩
  refine (θ_run _ _ _).mono (fun r h c => ?_) (Cert.Quant.Ref.run m' g')
  obtain ⟨h0, h1, h2, h3, h4, h5, h6⟩ := h c
  refine ⟨h0.trans ?_, h1.trans ?_, h2.trans ?_, h3.trans ?_, h4.trans ?_, h5, h6⟩
  · refine ext2 fun r n => ?_
    rw [Cert.Quant.Ref.out2_apply, hX, hW]
    exact (Cert.Quant.G2_eq m c (nX c) (nW c) r n).symm
  · refine ext2 fun r k => ?_
    rw [Cert.Quant.Ref.out3_apply, hX]
    exact (Cert.Quant.G3_eq m c (nX c) r k).symm
  · refine ext2 fun r b => ?_
    rw [Cert.Quant.Ref.out4_apply, hX]
    exact (Cert.Quant.G4_eq m c (nX c) r b).symm
  · refine ext2 fun k n => ?_
    rw [Cert.Quant.Ref.out5_apply, hW]
    exact (Cert.Quant.G5_eq m c (nW c) k n).symm
  · refine ext3 fun t r n => ?_
    rw [Cert.Quant.Ref.out6_apply, hW]
    exact (Cert.Quant.G6_eq m c (nW c) t r n).symm

theorem claim : Cert.Claim := ⟨Cert.Kernel.Gen.facts, Cert.KernelIdeal.Gen.facts, Cert.ReferenceIdeal.Gen.facts, Cert.Pre_no_nan.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
